-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_centers_in_patch [hPre_centers_in_patch : Cert.Pre_centers_in_patch.Facts] (m : (ℓ : Loc Cert.KernelIdeal.nD Cert.KernelIdeal.τ Cert.KernelIdeal.sig) → Buf (Elt Ideal) ℓ) : Prop :=
  ∀ c : Dev Cert.KernelIdeal.nD,
    (Cert.Pre_centers_in_patch.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_centers_in_patch [hPre_centers_in_patch : Cert.Pre_centers_in_patch.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_centers_in_patch.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_centers_in_patch [hKernelIdeal : Cert.KernelIdeal.Facts] [hPre_centers_in_patch : Cert.Pre_centers_in_patch.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_centers_in_patch m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_centers_in_patch [hReferenceIdeal : Cert.ReferenceIdeal.Facts] [hPre_centers_in_patch : Cert.Pre_centers_in_patch.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_centers_in_patch m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_centers_in_patch [hKernelIdeal : Cert.KernelIdeal.Facts] [hReferenceIdeal : Cert.ReferenceIdeal.Facts] [hPre_centers_in_patch : Cert.Pre_centers_in_patch.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_centers_in_patch m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v473) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_centers_in_patch : Cert.Pre_centers_in_patch.Facts),
    quiescent_Kernel (hKernel := hKernel)
    ∧ quiescent_KernelIdeal (hKernelIdeal := hKernelIdeal)
    ∧ quiescent_KernelIdeal_pre_centers_in_patch (hKernelIdeal := hKernelIdeal) (hPre_centers_in_patch := hPre_centers_in_patch)
    ∧ quiescent_ReferenceIdeal (hReferenceIdeal := hReferenceIdeal)
    ∧ quiescent_ReferenceIdeal_pre_centers_in_patch (hReferenceIdeal := hReferenceIdeal) (hPre_centers_in_patch := hPre_centers_in_patch)
    ∧ preserves_Kernel_KernelIdeal
    ∧ algebraic_KernelIdeal_ReferenceIdeal_pre_centers_in_patch (hKernelIdeal := hKernelIdeal) (hReferenceIdeal := hReferenceIdeal) (hPre_centers_in_patch := hPre_centers_in_patch)
-- ==== Pre_centers_in_patch.lean ====
abbrev S4x4096x3 : Shape := ⟨3, ![4, 4096, 3]⟩
abbrev S4x256x180x180 : Shape := ⟨4, ![4, 256, 180, 180]⟩
abbrev S4x4096x2 : Shape := ⟨3, ![4, 4096, 2]⟩
abbrev S_ : Shape := ⟨0, ![]⟩

class Facts : Prop where
  slices_S4x4096x3_S4x4096x2_0_0_0 : S4x4096x3.Slices ![0, 0, 0] S4x4096x2
  bcast_S_S4x4096x2 : S_.BroadcastsInDim S4x4096x2 (![] : Fin 0 → Fin S4x4096x2.rank)

variable [Facts]

def fn {F : FTy → Type} [FloatOps F] (main_arg0 : FVec F S4x4096x3 .f32) (main_arg1 : FVec F S4x256x180x180 .f32) : IVec S4x4096x2 1 :=
  let main_v0 : FVec F S4x4096x2 .f32 := (extractStridedSlice S4x4096x2 ![0, 0, 0] · slices_S4x4096x3_S4x4096x2_0_0_0) main_arg0
  let main_cst : FVec F S_ .f32 := constant S_ .f32 0xBF180000#32
  let main_v1 : FVec F S4x4096x2 .f32 := broadcastInDim S4x4096x2 ![] bcast_S_S4x4096x2 main_cst
  let main_v2 : IVec S4x4096x2 1 := cmpf .oge main_v0 main_v1
  let main_cst_0 : FVec F S_ .f32 := constant S_ .f32 0x3F980000#32
  let main_v3 : FVec F S4x4096x2 .f32 := broadcastInDim S4x4096x2 ![] bcast_S_S4x4096x2 main_cst_0
  let main_v4 : IVec S4x4096x2 1 := cmpf .olt main_v0 main_v3
  let main_v5 : IVec S4x4096x2 1 := andi main_v2 main_v4
  main_v5
-- ==== Kernel.lean ====
abbrev S4x4096x3 : Shape := ⟨3, ![4, 4096, 3]⟩
abbrev S4x256x180x180 : Shape := ⟨4, ![4, 256, 180, 180]⟩
abbrev S4x256x4x4 : Shape := ⟨4, ![4, 256, 4, 4]⟩
abbrev S4x4x4x256 : Shape := ⟨4, ![4, 4, 4, 256]⟩
abbrev S4x16x256 : Shape := ⟨3, ![4, 16, 256]⟩
abbrev S4x4096x2 : Shape := ⟨3, ![4, 4096, 2]⟩
abbrev S4x2x4096 : Shape := ⟨3, ![4, 2, 4096]⟩
abbrev S4x4096x256 : Shape := ⟨3, ![4, 4096, 256]⟩
abbrev S1x2x4096 : Shape := ⟨3, ![1, 2, 4096]⟩
abbrev S1x16x256 : Shape := ⟨3, ![1, 16, 256]⟩
abbrev S1x4096x256 : Shape := ⟨3, ![1, 4096, 256]⟩
abbrev S1x1x4096 : Shape := ⟨3, ![1, 1, 4096]⟩
abbrev S4096 : Shape := ⟨1, ![4096]⟩
abbrev S1x4096 : Shape := ⟨2, ![1, 4096]⟩
abbrev S16x4096 : Shape := ⟨2, ![16, 4096]⟩
abbrev S16x256 : Shape := ⟨2, ![16, 256]⟩
abbrev S4096x256 : Shape := ⟨2, ![4096, 256]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x3, .f32⟩
  | .hbm, ⟨1, _⟩ => ⟨S4x256x180x180, .f32⟩
  | .hbm, ⟨2, _⟩ => ⟨S4x256x4x4, .f32⟩
  | .hbm, ⟨3, _⟩ => ⟨S4x4x4x256, .f32⟩
  | .hbm, ⟨4, _⟩ => ⟨S4x16x256, .f32⟩
  | .hbm, ⟨5, _⟩ => ⟨S4x4096x2, .f32⟩
  | .hbm, ⟨6, _⟩ => ⟨S4x2x4096, .f32⟩
  | .hbm, ⟨7, _⟩ => ⟨S4x4096x256, .f32⟩
  | .local _ .vmem, ⟨0, _⟩ => ⟨S1x2x4096, .f32⟩
  | .local _ .vmem, ⟨1, _⟩ => ⟨S1x2x4096, .f32⟩
  | .local _ .vmem, ⟨2, _⟩ => ⟨S1x16x256, .f32⟩
  | .local _ .vmem, ⟨3, _⟩ => ⟨S1x16x256, .f32⟩
  | .local _ .vmem, ⟨4, _⟩ => ⟨S1x4096x256, .f32⟩
  | .local _ .vmem, ⟨5, _⟩ => ⟨S1x4096x256, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x4096x3 : Shape := ⟨3, ![4, 4096, 3]⟩
abbrev S4x256x180x180 : Shape := ⟨4, ![4, 256, 180, 180]⟩
abbrev S4x180x180x256 : Shape := ⟨4, ![4, 180, 180, 256]⟩
abbrev S1x4096x1 : Shape := ⟨3, ![1, 4096, 1]⟩
abbrev S4096 : Shape := ⟨1, ![4096]⟩
abbrev S_ : Shape := ⟨0, ![]⟩
abbrev S1x180x180x256 : Shape := ⟨4, ![1, 180, 180, 256]⟩
abbrev S180x180x256 : Shape := ⟨3, ![180, 180, 256]⟩
abbrev S4096x1 : Shape := ⟨2, ![4096, 1]⟩
abbrev S4096x2 : Shape := ⟨2, ![4096, 2]⟩
abbrev S4096x256 : Shape := ⟨2, ![4096, 256]⟩
abbrev S1x4096x256 : Shape := ⟨3, ![1, 4096, 256]⟩
abbrev S4x4096x256 : Shape := ⟨3, ![4, 4096, 256]⟩

abbrev nBuf : Space → Nat
  | .hbm => 684
  | .vmem => 0
  | .smem => 0
  | _ => 0

abbrev hbmTy0_0 (i : Nat) : BufTy := match i % 128 with
  | 0 => ⟨S4x4096x3, .f32⟩
  | 1 => ⟨S4x256x180x180, .f32⟩
  | 2 => ⟨S4x180x180x256, .f32⟩
  | 3 => ⟨S1x4096x1, .f32⟩
  | 4 => ⟨S4096, .f32⟩
  | 5 => ⟨S_, .f32⟩
  | 6 => ⟨S4096, .f32⟩
  | 7 => ⟨S4096, .f32⟩
  | 8 => ⟨S_, .f32⟩
  | 9 => ⟨S4096, .f32⟩
  | 10 => ⟨S4096, .f32⟩
  | 11 => ⟨S_, .f32⟩
  | 12 => ⟨S4096, .f32⟩
  | 13 => ⟨S4096, .f32⟩
  | 14 => ⟨S1x4096x1, .f32⟩
  | 15 => ⟨S4096, .f32⟩
  | 16 => ⟨S_, .f32⟩
  | 17 => ⟨S4096, .f32⟩
  | 18 => ⟨S4096, .f32⟩
  | 19 => ⟨S_, .f32⟩
  | 20 => ⟨S4096, .f32⟩
  | 21 => ⟨S4096, .f32⟩
  | 22 => ⟨S_, .f32⟩
  | 23 => ⟨S4096, .f32⟩
  | 24 => ⟨S4096, .f32⟩
  | 25 => ⟨S1x180x180x256, .f32⟩
  | 26 => ⟨S180x180x256, .f32⟩
  | 27 => ⟨S4096, .f32⟩
  | 28 => ⟨S4096, .i32⟩
  | 29 => ⟨S_, .i32⟩
  | 30 => ⟨S4096, .i32⟩
  | 31 => ⟨S4096, .i32⟩
  | 32 => ⟨S4096, .f32⟩
  | 33 => ⟨S4096, .i32⟩
  | 34 => ⟨S_, .i32⟩
  | 35 => ⟨S4096, .i32⟩
  | 36 => ⟨S4096, .i32⟩
  | 37 => ⟨S_, .i32⟩
  | 38 => ⟨S_, .i32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S_, .i32⟩
  | 46 => ⟨S_, .i32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S_, .i32⟩
  | 54 => ⟨S_, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S_, .i32⟩
  | 63 => ⟨S_, .i32⟩
  | 64 => ⟨S4096, .i32⟩
  | 65 => ⟨S4096, .i32⟩
  | 66 => ⟨S_, .i32⟩
  | 67 => ⟨S4096, .i32⟩
  | 68 => ⟨S4096, .i32⟩
  | 69 => ⟨S_, .i32⟩
  | 70 => ⟨S4096, .i32⟩
  | 71 => ⟨S4096, .i1⟩
  | 72 => ⟨S_, .i32⟩
  | 73 => ⟨S4096, .i32⟩
  | 74 => ⟨S4096, .i32⟩
  | 75 => ⟨S4096, .i32⟩
  | 76 => ⟨S_, .i32⟩
  | 77 => ⟨S4096, .i32⟩
  | 78 => ⟨S4096, .i1⟩
  | 79 => ⟨S_, .i32⟩
  | 80 => ⟨S4096, .i32⟩
  | 81 => ⟨S4096, .i32⟩
  | 82 => ⟨S4096, .i32⟩
  | 83 => ⟨S4096x1, .i32⟩
  | 84 => ⟨S4096x1, .i32⟩
  | 85 => ⟨S4096x2, .i32⟩
  | 86 => ⟨S4096x256, .f32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S4096x1, .i32⟩
  | 103 => ⟨S4096x2, .i32⟩
  | 104 => ⟨S4096x256, .f32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S_, .i32⟩
  | 113 => ⟨S4096, .i32⟩
  | 114 => ⟨S4096, .i1⟩
  | 115 => ⟨S_, .i32⟩
  | 116 => ⟨S4096, .i32⟩
  | 117 => ⟨S4096, .i32⟩
  | 118 => ⟨S4096, .i32⟩
  | 119 => ⟨S4096x1, .i32⟩
  | 120 => ⟨S4096x1, .i32⟩
  | 121 => ⟨S4096x2, .i32⟩
  | 122 => ⟨S4096x256, .f32⟩
  | 123 => ⟨S_, .i32⟩
  | 124 => ⟨S4096, .i32⟩
  | 125 => ⟨S4096, .i1⟩
  | 126 => ⟨S_, .i32⟩
  | 127 => ⟨S4096, .i32⟩
  | _ => ⟨S4x4096x3, .f32⟩

abbrev hbmTy0_1 (i : Nat) : BufTy := match i % 128 with
  | 0 => ⟨S4096, .i32⟩
  | 1 => ⟨S4096, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S4096x1, .i32⟩
  | 11 => ⟨S4096x2, .i32⟩
  | 12 => ⟨S4096x256, .f32⟩
  | 13 => ⟨S4096, .f32⟩
  | 14 => ⟨S4096, .f32⟩
  | 15 => ⟨S4096, .f32⟩
  | 16 => ⟨S4096, .f32⟩
  | 17 => ⟨S4096, .f32⟩
  | 18 => ⟨S4096, .f32⟩
  | 19 => ⟨S4096, .f32⟩
  | 20 => ⟨S4096, .f32⟩
  | 21 => ⟨S4096, .f32⟩
  | 22 => ⟨S4096, .f32⟩
  | 23 => ⟨S4096, .f32⟩
  | 24 => ⟨S4096, .f32⟩
  | 25 => ⟨S4096, .f32⟩
  | 26 => ⟨S4096, .f32⟩
  | 27 => ⟨S4096, .f32⟩
  | 28 => ⟨S4096, .f32⟩
  | 29 => ⟨S4096x1, .f32⟩
  | 30 => ⟨S4096x256, .f32⟩
  | 31 => ⟨S4096x256, .f32⟩
  | 32 => ⟨S4096x1, .f32⟩
  | 33 => ⟨S4096x256, .f32⟩
  | 34 => ⟨S4096x256, .f32⟩
  | 35 => ⟨S4096x256, .f32⟩
  | 36 => ⟨S4096x1, .f32⟩
  | 37 => ⟨S4096x256, .f32⟩
  | 38 => ⟨S4096x256, .f32⟩
  | 39 => ⟨S4096x256, .f32⟩
  | 40 => ⟨S4096x1, .f32⟩
  | 41 => ⟨S4096x256, .f32⟩
  | 42 => ⟨S4096x256, .f32⟩
  | 43 => ⟨S4096x256, .f32⟩
  | 44 => ⟨S1x4096x1, .f32⟩
  | 45 => ⟨S4096, .f32⟩
  | 46 => ⟨S_, .f32⟩
  | 47 => ⟨S4096, .f32⟩
  | 48 => ⟨S4096, .f32⟩
  | 49 => ⟨S_, .f32⟩
  | 50 => ⟨S4096, .f32⟩
  | 51 => ⟨S4096, .f32⟩
  | 52 => ⟨S_, .f32⟩
  | 53 => ⟨S4096, .f32⟩
  | 54 => ⟨S4096, .f32⟩
  | 55 => ⟨S1x4096x1, .f32⟩
  | 56 => ⟨S4096, .f32⟩
  | 57 => ⟨S_, .f32⟩
  | 58 => ⟨S4096, .f32⟩
  | 59 => ⟨S4096, .f32⟩
  | 60 => ⟨S_, .f32⟩
  | 61 => ⟨S4096, .f32⟩
  | 62 => ⟨S4096, .f32⟩
  | 63 => ⟨S_, .f32⟩
  | 64 => ⟨S4096, .f32⟩
  | 65 => ⟨S4096, .f32⟩
  | 66 => ⟨S1x180x180x256, .f32⟩
  | 67 => ⟨S180x180x256, .f32⟩
  | 68 => ⟨S4096, .f32⟩
  | 69 => ⟨S4096, .i32⟩
  | 70 => ⟨S_, .i32⟩
  | 71 => ⟨S4096, .i32⟩
  | 72 => ⟨S4096, .i32⟩
  | 73 => ⟨S4096, .f32⟩
  | 74 => ⟨S4096, .i32⟩
  | 75 => ⟨S_, .i32⟩
  | 76 => ⟨S4096, .i32⟩
  | 77 => ⟨S4096, .i32⟩
  | 78 => ⟨S_, .i32⟩
  | 79 => ⟨S_, .i32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S_, .i32⟩
  | 87 => ⟨S_, .i32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S_, .i32⟩
  | 95 => ⟨S_, .i32⟩
  | 96 => ⟨S_, .i32⟩
  | 97 => ⟨S4096, .i32⟩
  | 98 => ⟨S4096, .i32⟩
  | 99 => ⟨S_, .i32⟩
  | 100 => ⟨S4096, .i32⟩
  | 101 => ⟨S4096, .i32⟩
  | 102 => ⟨S_, .i32⟩
  | 103 => ⟨S_, .i32⟩
  | 104 => ⟨S_, .i32⟩
  | 105 => ⟨S4096, .i32⟩
  | 106 => ⟨S4096, .i32⟩
  | 107 => ⟨S_, .i32⟩
  | 108 => ⟨S4096, .i32⟩
  | 109 => ⟨S4096, .i32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S4096x1, .i32⟩
  | 126 => ⟨S4096x2, .i32⟩
  | 127 => ⟨S4096x256, .f32⟩
  | _ => ⟨S4x4096x3, .f32⟩

abbrev hbmTy0_2 (i : Nat) : BufTy := match i % 128 with
  | 0 => ⟨S_, .i32⟩
  | 1 => ⟨S4096, .i32⟩
  | 2 => ⟨S4096, .i1⟩
  | 3 => ⟨S_, .i32⟩
  | 4 => ⟨S4096, .i32⟩
  | 5 => ⟨S4096, .i32⟩
  | 6 => ⟨S4096, .i32⟩
  | 7 => ⟨S_, .i32⟩
  | 8 => ⟨S4096, .i32⟩
  | 9 => ⟨S4096, .i1⟩
  | 10 => ⟨S_, .i32⟩
  | 11 => ⟨S4096, .i32⟩
  | 12 => ⟨S4096, .i32⟩
  | 13 => ⟨S4096, .i32⟩
  | 14 => ⟨S4096x1, .i32⟩
  | 15 => ⟨S4096x1, .i32⟩
  | 16 => ⟨S4096x2, .i32⟩
  | 17 => ⟨S4096x256, .f32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S4096x1, .i32⟩
  | 34 => ⟨S4096x2, .i32⟩
  | 35 => ⟨S4096x256, .f32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S4096x1, .i32⟩
  | 52 => ⟨S4096x2, .i32⟩
  | 53 => ⟨S4096x256, .f32⟩
  | 54 => ⟨S4096, .f32⟩
  | 55 => ⟨S4096, .f32⟩
  | 56 => ⟨S4096, .f32⟩
  | 57 => ⟨S4096, .f32⟩
  | 58 => ⟨S4096, .f32⟩
  | 59 => ⟨S4096, .f32⟩
  | 60 => ⟨S4096, .f32⟩
  | 61 => ⟨S4096, .f32⟩
  | 62 => ⟨S4096, .f32⟩
  | 63 => ⟨S4096, .f32⟩
  | 64 => ⟨S4096, .f32⟩
  | 65 => ⟨S4096, .f32⟩
  | 66 => ⟨S4096, .f32⟩
  | 67 => ⟨S4096, .f32⟩
  | 68 => ⟨S4096, .f32⟩
  | 69 => ⟨S4096, .f32⟩
  | 70 => ⟨S4096x1, .f32⟩
  | 71 => ⟨S4096x256, .f32⟩
  | 72 => ⟨S4096x256, .f32⟩
  | 73 => ⟨S4096x1, .f32⟩
  | 74 => ⟨S4096x256, .f32⟩
  | 75 => ⟨S4096x256, .f32⟩
  | 76 => ⟨S4096x256, .f32⟩
  | 77 => ⟨S4096x1, .f32⟩
  | 78 => ⟨S4096x256, .f32⟩
  | 79 => ⟨S4096x256, .f32⟩
  | 80 => ⟨S4096x256, .f32⟩
  | 81 => ⟨S4096x1, .f32⟩
  | 82 => ⟨S4096x256, .f32⟩
  | 83 => ⟨S4096x256, .f32⟩
  | 84 => ⟨S4096x256, .f32⟩
  | 85 => ⟨S1x4096x1, .f32⟩
  | 86 => ⟨S4096, .f32⟩
  | 87 => ⟨S_, .f32⟩
  | 88 => ⟨S4096, .f32⟩
  | 89 => ⟨S4096, .f32⟩
  | 90 => ⟨S_, .f32⟩
  | 91 => ⟨S4096, .f32⟩
  | 92 => ⟨S4096, .f32⟩
  | 93 => ⟨S_, .f32⟩
  | 94 => ⟨S4096, .f32⟩
  | 95 => ⟨S4096, .f32⟩
  | 96 => ⟨S1x4096x1, .f32⟩
  | 97 => ⟨S4096, .f32⟩
  | 98 => ⟨S_, .f32⟩
  | 99 => ⟨S4096, .f32⟩
  | 100 => ⟨S4096, .f32⟩
  | 101 => ⟨S_, .f32⟩
  | 102 => ⟨S4096, .f32⟩
  | 103 => ⟨S4096, .f32⟩
  | 104 => ⟨S_, .f32⟩
  | 105 => ⟨S4096, .f32⟩
  | 106 => ⟨S4096, .f32⟩
  | 107 => ⟨S1x180x180x256, .f32⟩
  | 108 => ⟨S180x180x256, .f32⟩
  | 109 => ⟨S4096, .f32⟩
  | 110 => ⟨S4096, .i32⟩
  | 111 => ⟨S_, .i32⟩
  | 112 => ⟨S4096, .i32⟩
  | 113 => ⟨S4096, .i32⟩
  | 114 => ⟨S4096, .f32⟩
  | 115 => ⟨S4096, .i32⟩
  | 116 => ⟨S_, .i32⟩
  | 117 => ⟨S4096, .i32⟩
  | 118 => ⟨S4096, .i32⟩
  | 119 => ⟨S_, .i32⟩
  | 120 => ⟨S_, .i32⟩
  | 121 => ⟨S_, .i32⟩
  | 122 => ⟨S4096, .i32⟩
  | 123 => ⟨S4096, .i32⟩
  | 124 => ⟨S_, .i32⟩
  | 125 => ⟨S4096, .i32⟩
  | 126 => ⟨S4096, .i32⟩
  | 127 => ⟨S_, .i32⟩
  | _ => ⟨S4x4096x3, .f32⟩

abbrev hbmTy0_3 (i : Nat) : BufTy := match i % 128 with
  | 0 => ⟨S_, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i32⟩
  | 7 => ⟨S_, .i32⟩
  | 8 => ⟨S_, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i32⟩
  | 15 => ⟨S_, .i32⟩
  | 16 => ⟨S_, .i32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S4096x1, .i32⟩
  | 38 => ⟨S4096x1, .i32⟩
  | 39 => ⟨S4096x2, .i32⟩
  | 40 => ⟨S4096x256, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S_, .i32⟩
  | 49 => ⟨S4096, .i32⟩
  | 50 => ⟨S4096, .i1⟩
  | 51 => ⟨S_, .i32⟩
  | 52 => ⟨S4096, .i32⟩
  | 53 => ⟨S4096, .i32⟩
  | 54 => ⟨S4096, .i32⟩
  | 55 => ⟨S4096x1, .i32⟩
  | 56 => ⟨S4096x1, .i32⟩
  | 57 => ⟨S4096x2, .i32⟩
  | 58 => ⟨S4096x256, .f32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S4096x1, .i32⟩
  | 75 => ⟨S4096x2, .i32⟩
  | 76 => ⟨S4096x256, .f32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S4096x1, .i32⟩
  | 92 => ⟨S4096x1, .i32⟩
  | 93 => ⟨S4096x2, .i32⟩
  | 94 => ⟨S4096x256, .f32⟩
  | 95 => ⟨S4096, .f32⟩
  | 96 => ⟨S4096, .f32⟩
  | 97 => ⟨S4096, .f32⟩
  | 98 => ⟨S4096, .f32⟩
  | 99 => ⟨S4096, .f32⟩
  | 100 => ⟨S4096, .f32⟩
  | 101 => ⟨S4096, .f32⟩
  | 102 => ⟨S4096, .f32⟩
  | 103 => ⟨S4096, .f32⟩
  | 104 => ⟨S4096, .f32⟩
  | 105 => ⟨S4096, .f32⟩
  | 106 => ⟨S4096, .f32⟩
  | 107 => ⟨S4096, .f32⟩
  | 108 => ⟨S4096, .f32⟩
  | 109 => ⟨S4096, .f32⟩
  | 110 => ⟨S4096, .f32⟩
  | 111 => ⟨S4096x1, .f32⟩
  | 112 => ⟨S4096x256, .f32⟩
  | 113 => ⟨S4096x256, .f32⟩
  | 114 => ⟨S4096x1, .f32⟩
  | 115 => ⟨S4096x256, .f32⟩
  | 116 => ⟨S4096x256, .f32⟩
  | 117 => ⟨S4096x256, .f32⟩
  | 118 => ⟨S4096x1, .f32⟩
  | 119 => ⟨S4096x256, .f32⟩
  | 120 => ⟨S4096x256, .f32⟩
  | 121 => ⟨S4096x256, .f32⟩
  | 122 => ⟨S4096x1, .f32⟩
  | 123 => ⟨S4096x256, .f32⟩
  | 124 => ⟨S4096x256, .f32⟩
  | 125 => ⟨S4096x256, .f32⟩
  | 126 => ⟨S1x4096x1, .f32⟩
  | 127 => ⟨S4096, .f32⟩
  | _ => ⟨S4x4096x3, .f32⟩

abbrev hbmTy0_4 (i : Nat) : BufTy := match i % 128 with
  | 0 => ⟨S_, .f32⟩
  | 1 => ⟨S4096, .f32⟩
  | 2 => ⟨S4096, .f32⟩
  | 3 => ⟨S_, .f32⟩
  | 4 => ⟨S4096, .f32⟩
  | 5 => ⟨S4096, .f32⟩
  | 6 => ⟨S_, .f32⟩
  | 7 => ⟨S4096, .f32⟩
  | 8 => ⟨S4096, .f32⟩
  | 9 => ⟨S1x4096x1, .f32⟩
  | 10 => ⟨S4096, .f32⟩
  | 11 => ⟨S_, .f32⟩
  | 12 => ⟨S4096, .f32⟩
  | 13 => ⟨S4096, .f32⟩
  | 14 => ⟨S_, .f32⟩
  | 15 => ⟨S4096, .f32⟩
  | 16 => ⟨S4096, .f32⟩
  | 17 => ⟨S_, .f32⟩
  | 18 => ⟨S4096, .f32⟩
  | 19 => ⟨S4096, .f32⟩
  | 20 => ⟨S1x180x180x256, .f32⟩
  | 21 => ⟨S180x180x256, .f32⟩
  | 22 => ⟨S4096, .f32⟩
  | 23 => ⟨S4096, .i32⟩
  | 24 => ⟨S_, .i32⟩
  | 25 => ⟨S4096, .i32⟩
  | 26 => ⟨S4096, .i32⟩
  | 27 => ⟨S4096, .f32⟩
  | 28 => ⟨S4096, .i32⟩
  | 29 => ⟨S_, .i32⟩
  | 30 => ⟨S4096, .i32⟩
  | 31 => ⟨S4096, .i32⟩
  | 32 => ⟨S_, .i32⟩
  | 33 => ⟨S_, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i32⟩
  | 40 => ⟨S_, .i32⟩
  | 41 => ⟨S_, .i32⟩
  | 42 => ⟨S_, .i32⟩
  | 43 => ⟨S4096, .i32⟩
  | 44 => ⟨S4096, .i32⟩
  | 45 => ⟨S_, .i32⟩
  | 46 => ⟨S4096, .i32⟩
  | 47 => ⟨S4096, .i32⟩
  | 48 => ⟨S_, .i32⟩
  | 49 => ⟨S_, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S_, .i32⟩
  | 57 => ⟨S_, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S4096x1, .i32⟩
  | 80 => ⟨S4096x2, .i32⟩
  | 81 => ⟨S4096x256, .f32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S_, .i32⟩
  | 90 => ⟨S4096, .i32⟩
  | 91 => ⟨S4096, .i1⟩
  | 92 => ⟨S_, .i32⟩
  | 93 => ⟨S4096, .i32⟩
  | 94 => ⟨S4096, .i32⟩
  | 95 => ⟨S4096, .i32⟩
  | 96 => ⟨S4096x1, .i32⟩
  | 97 => ⟨S4096x1, .i32⟩
  | 98 => ⟨S4096x2, .i32⟩
  | 99 => ⟨S4096x256, .f32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S4096x1, .i32⟩
  | 115 => ⟨S4096x1, .i32⟩
  | 116 => ⟨S4096x2, .i32⟩
  | 117 => ⟨S4096x256, .f32⟩
  | 118 => ⟨S_, .i32⟩
  | 119 => ⟨S4096, .i32⟩
  | 120 => ⟨S4096, .i1⟩
  | 121 => ⟨S_, .i32⟩
  | 122 => ⟨S4096, .i32⟩
  | 123 => ⟨S4096, .i32⟩
  | 124 => ⟨S4096, .i32⟩
  | 125 => ⟨S_, .i32⟩
  | 126 => ⟨S4096, .i32⟩
  | 127 => ⟨S4096, .i1⟩
  | _ => ⟨S4x4096x3, .f32⟩

abbrev hbmTy0_5 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S4096x1, .i32⟩
  | 6 => ⟨S4096x2, .i32⟩
  | 7 => ⟨S4096x256, .f32⟩
  | 8 => ⟨S4096, .f32⟩
  | 9 => ⟨S4096, .f32⟩
  | 10 => ⟨S4096, .f32⟩
  | 11 => ⟨S4096, .f32⟩
  | 12 => ⟨S4096, .f32⟩
  | 13 => ⟨S4096, .f32⟩
  | 14 => ⟨S4096, .f32⟩
  | 15 => ⟨S4096, .f32⟩
  | 16 => ⟨S4096, .f32⟩
  | 17 => ⟨S4096, .f32⟩
  | 18 => ⟨S4096, .f32⟩
  | 19 => ⟨S4096, .f32⟩
  | 20 => ⟨S4096, .f32⟩
  | 21 => ⟨S4096, .f32⟩
  | 22 => ⟨S4096, .f32⟩
  | 23 => ⟨S4096, .f32⟩
  | 24 => ⟨S4096x1, .f32⟩
  | 25 => ⟨S4096x256, .f32⟩
  | 26 => ⟨S4096x256, .f32⟩
  | 27 => ⟨S4096x1, .f32⟩
  | 28 => ⟨S4096x256, .f32⟩
  | 29 => ⟨S4096x256, .f32⟩
  | 30 => ⟨S4096x256, .f32⟩
  | 31 => ⟨S4096x1, .f32⟩
  | 32 => ⟨S4096x256, .f32⟩
  | 33 => ⟨S4096x256, .f32⟩
  | 34 => ⟨S4096x256, .f32⟩
  | 35 => ⟨S4096x1, .f32⟩
  | 36 => ⟨S4096x256, .f32⟩
  | 37 => ⟨S4096x256, .f32⟩
  | 38 => ⟨S4096x256, .f32⟩
  | 39 => ⟨S1x4096x256, .f32⟩
  | 40 => ⟨S1x4096x256, .f32⟩
  | 41 => ⟨S1x4096x256, .f32⟩
  | 42 => ⟨S1x4096x256, .f32⟩
  | 43 => ⟨S4x4096x256, .f32⟩
  | _ => ⟨S4x4096x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x4096x3, .f32⟩

abbrev bufTy : (tb : Table) → Fin (tcTables nBuf tb) → BufTy
  | .hbm, ⟨i, _⟩ => hbmTy i
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_c_7 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v27 : Ref sig .tc := ⟨.hbm, 44, rfl⟩
abbrev main_c_8 : Ref sig .tc := ⟨.hbm, 45, rfl⟩
abbrev main_c_9 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v28 : Ref sig .tc := ⟨.hbm, 52, rfl⟩
abbrev main_c_10 : Ref sig .tc := ⟨.hbm, 53, rfl⟩
abbrev main_c_11 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v29 : Ref sig .tc := ⟨.hbm, 60, rfl⟩
abbrev main_c_12 : Ref sig .tc := ⟨.hbm, 61, rfl⟩
abbrev main_c_13 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v30 : Ref sig .tc := ⟨.hbm, 68, rfl⟩
abbrev main_c_14 : Ref sig .tc := ⟨.hbm, 69, rfl⟩
abbrev main_v31 : Ref sig .tc := ⟨.hbm, 70, rfl⟩
abbrev main_v32 : Ref sig .tc := ⟨.hbm, 71, rfl⟩
abbrev main_c_15 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_c_16 : Ref sig .tc := ⟨.hbm, 76, rfl⟩
abbrev main_v36 : Ref sig .tc := ⟨.hbm, 77, rfl⟩
abbrev main_v37 : Ref sig .tc := ⟨.hbm, 78, rfl⟩
abbrev main_c_17 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_18 : Ref sig .tc := ⟨.hbm, 87, rfl⟩
abbrev main_v45 : Ref sig .tc := ⟨.hbm, 88, rfl⟩
abbrev main_v46 : Ref sig .tc := ⟨.hbm, 89, rfl⟩
abbrev main_c_19 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_20 : Ref sig .tc := ⟨.hbm, 94, rfl⟩
abbrev main_v50 : Ref sig .tc := ⟨.hbm, 95, rfl⟩
abbrev main_v51 : Ref sig .tc := ⟨.hbm, 96, rfl⟩
abbrev main_c_21 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_c_22 : Ref sig .tc := ⟨.hbm, 105, rfl⟩
abbrev main_v59 : Ref sig .tc := ⟨.hbm, 106, rfl⟩
abbrev main_v60 : Ref sig .tc := ⟨.hbm, 107, rfl⟩
abbrev main_c_23 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_c_24 : Ref sig .tc := ⟨.hbm, 112, rfl⟩
abbrev main_v64 : Ref sig .tc := ⟨.hbm, 113, rfl⟩
abbrev main_v65 : Ref sig .tc := ⟨.hbm, 114, rfl⟩
abbrev main_c_25 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_c_26 : Ref sig .tc := ⟨.hbm, 123, rfl⟩
abbrev main_v73 : Ref sig .tc := ⟨.hbm, 124, rfl⟩
abbrev main_v74 : Ref sig .tc := ⟨.hbm, 125, rfl⟩
abbrev main_c_27 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_28 : Ref sig .tc := ⟨.hbm, 130, rfl⟩
abbrev main_v78 : Ref sig .tc := ⟨.hbm, 131, rfl⟩
abbrev main_v79 : Ref sig .tc := ⟨.hbm, 132, rfl⟩
abbrev main_c_29 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_30 : Ref sig .tc := ⟨.hbm, 174, rfl⟩
abbrev main_v120 : Ref sig .tc := ⟨.hbm, 175, rfl⟩
abbrev main_v121 : Ref sig .tc := ⟨.hbm, 176, rfl⟩
abbrev main_cst_31 : Ref sig .tc := ⟨.hbm, 177, rfl⟩
abbrev main_v122 : Ref sig .tc := ⟨.hbm, 178, rfl⟩
abbrev main_v123 : Ref sig .tc := ⟨.hbm, 179, rfl⟩
abbrev main_cst_32 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_33 : Ref sig .tc := ⟨.hbm, 185, rfl⟩
abbrev main_v128 : Ref sig .tc := ⟨.hbm, 186, rfl⟩
abbrev main_v129 : Ref sig .tc := ⟨.hbm, 187, rfl⟩
abbrev main_cst_34 : Ref sig .tc := ⟨.hbm, 188, rfl⟩
abbrev main_v130 : Ref sig .tc := ⟨.hbm, 189, rfl⟩
abbrev main_v131 : Ref sig .tc := ⟨.hbm, 190, rfl⟩
abbrev main_cst_35 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_c_36 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_c_37 : Ref sig .tc := ⟨.hbm, 203, rfl⟩
abbrev main_v142 : Ref sig .tc := ⟨.hbm, 204, rfl⟩
abbrev main_v143 : Ref sig .tc := ⟨.hbm, 205, rfl⟩
abbrev main_c_38 : Ref sig .tc := ⟨.hbm, 206, rfl⟩
abbrev main_c_39 : Ref sig .tc := ⟨.hbm, 207, rfl⟩
abbrev main_call4_v0 : Ref sig .tc := ⟨.hbm, 208, rfl⟩
abbrev main_call4_v1 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_v144 : Ref sig .tc := ⟨.hbm, 213, rfl⟩
abbrev main_c_40 : Ref sig .tc := ⟨.hbm, 214, rfl⟩
abbrev main_c_41 : Ref sig .tc := ⟨.hbm, 215, rfl⟩
abbrev main_call5_v0 : Ref sig .tc := ⟨.hbm, 216, rfl⟩
abbrev main_call5_v1 : Ref sig .tc := ⟨.hbm, 217, rfl⟩
abbrev main_call5_v2 : Ref sig .tc := ⟨.hbm, 218, rfl⟩
abbrev main_call5_v3 : Ref sig .tc := ⟨.hbm, 219, rfl⟩
abbrev main_call5_v4 : Ref sig .tc := ⟨.hbm, 220, rfl⟩
abbrev main_v145 : Ref sig .tc := ⟨.hbm, 221, rfl⟩
abbrev main_c_42 : Ref sig .tc := ⟨.hbm, 222, rfl⟩
abbrev main_c_43 : Ref sig .tc := ⟨.hbm, 223, rfl⟩
abbrev main_call6_v0 : Ref sig .tc := ⟨.hbm, 224, rfl⟩
abbrev main_call6_v1 : Ref sig .tc := ⟨.hbm, 225, rfl⟩
abbrev main_call6_v2 : Ref sig .tc := ⟨.hbm, 226, rfl⟩
abbrev main_call6_v3 : Ref sig .tc := ⟨.hbm, 227, rfl⟩
abbrev main_call6_v4 : Ref sig .tc := ⟨.hbm, 228, rfl⟩
abbrev main_v146 : Ref sig .tc := ⟨.hbm, 229, rfl⟩
abbrev main_c_44 : Ref sig .tc := ⟨.hbm, 230, rfl⟩
abbrev main_c_45 : Ref sig .tc := ⟨.hbm, 231, rfl⟩
abbrev main_call7_v0 : Ref sig .tc := ⟨.hbm, 232, rfl⟩
abbrev main_call7_v1 : Ref sig .tc := ⟨.hbm, 233, rfl⟩
abbrev main_call7_v2 : Ref sig .tc := ⟨.hbm, 234, rfl⟩
abbrev main_call7_v3 : Ref sig .tc := ⟨.hbm, 235, rfl⟩
abbrev main_call7_v4 : Ref sig .tc := ⟨.hbm, 236, rfl⟩
abbrev main_v147 : Ref sig .tc := ⟨.hbm, 237, rfl⟩
abbrev main_c_46 : Ref sig .tc := ⟨.hbm, 238, rfl⟩
abbrev main_v148 : Ref sig .tc := ⟨.hbm, 239, rfl⟩
abbrev main_v149 : Ref sig .tc := ⟨.hbm, 240, rfl⟩
abbrev main_c_47 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_c_48 : Ref sig .tc := ⟨.hbm, 245, rfl⟩
abbrev main_v153 : Ref sig .tc := ⟨.hbm, 246, rfl⟩
abbrev main_v154 : Ref sig .tc := ⟨.hbm, 247, rfl⟩
abbrev main_c_49 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_c_50 : Ref sig .tc := ⟨.hbm, 256, rfl⟩
abbrev main_v162 : Ref sig .tc := ⟨.hbm, 257, rfl⟩
abbrev main_v163 : Ref sig .tc := ⟨.hbm, 258, rfl⟩
abbrev main_c_51 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_c_52 : Ref sig .tc := ⟨.hbm, 263, rfl⟩
abbrev main_v167 : Ref sig .tc := ⟨.hbm, 264, rfl⟩
abbrev main_v168 : Ref sig .tc := ⟨.hbm, 265, rfl⟩
abbrev main_c_53 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_c_54 : Ref sig .tc := ⟨.hbm, 274, rfl⟩
abbrev main_v176 : Ref sig .tc := ⟨.hbm, 275, rfl⟩
abbrev main_v177 : Ref sig .tc := ⟨.hbm, 276, rfl⟩
abbrev main_c_55 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_c_56 : Ref sig .tc := ⟨.hbm, 281, rfl⟩
abbrev main_v181 : Ref sig .tc := ⟨.hbm, 282, rfl⟩
abbrev main_v182 : Ref sig .tc := ⟨.hbm, 283, rfl⟩
abbrev main_c_57 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_c_58 : Ref sig .tc := ⟨.hbm, 292, rfl⟩
abbrev main_v190 : Ref sig .tc := ⟨.hbm, 293, rfl⟩
abbrev main_v191 : Ref sig .tc := ⟨.hbm, 294, rfl⟩
abbrev main_c_59 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_c_60 : Ref sig .tc := ⟨.hbm, 299, rfl⟩
abbrev main_v195 : Ref sig .tc := ⟨.hbm, 300, rfl⟩
abbrev main_v196 : Ref sig .tc := ⟨.hbm, 301, rfl⟩
abbrev main_c_61 : Ref sig .tc := ⟨.hbm, 302, rfl⟩
abbrev main_v197 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_v203 : Ref sig .tc := ⟨.hbm, 309, rfl⟩
abbrev main_v204 : Ref sig .tc := ⟨.hbm, 310, rfl⟩
abbrev main_v205 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_v218 : Ref sig .tc := ⟨.hbm, 324, rfl⟩
abbrev main_v219 : Ref sig .tc := ⟨.hbm, 325, rfl⟩
abbrev main_v220 : Ref sig .tc := ⟨.hbm, 326, rfl⟩
abbrev main_v221 : Ref sig .tc := ⟨.hbm, 327, rfl⟩
abbrev main_v222 : Ref sig .tc := ⟨.hbm, 328, rfl⟩
abbrev main_v223 : Ref sig .tc := ⟨.hbm, 329, rfl⟩
abbrev main_v224 : Ref sig .tc := ⟨.hbm, 330, rfl⟩
abbrev main_v225 : Ref sig .tc := ⟨.hbm, 331, rfl⟩
abbrev main_v226 : Ref sig .tc := ⟨.hbm, 332, rfl⟩
abbrev main_v227 : Ref sig .tc := ⟨.hbm, 333, rfl⟩
abbrev main_v228 : Ref sig .tc := ⟨.hbm, 334, rfl⟩
abbrev main_v229 : Ref sig .tc := ⟨.hbm, 335, rfl⟩
abbrev main_v230 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_cst_62 : Ref sig .tc := ⟨.hbm, 343, rfl⟩
abbrev main_v237 : Ref sig .tc := ⟨.hbm, 344, rfl⟩
abbrev main_v238 : Ref sig .tc := ⟨.hbm, 345, rfl⟩
abbrev main_cst_63 : Ref sig .tc := ⟨.hbm, 346, rfl⟩
abbrev main_v239 : Ref sig .tc := ⟨.hbm, 347, rfl⟩
abbrev main_v240 : Ref sig .tc := ⟨.hbm, 348, rfl⟩
abbrev main_cst_64 : Ref sig .tc := ⟨.hbm, 349, rfl⟩
abbrev main_v241 : Ref sig .tc := ⟨.hbm, 350, rfl⟩
abbrev main_v242 : Ref sig .tc := ⟨.hbm, 351, rfl⟩
abbrev main_v243 : Ref sig .tc := ⟨.hbm, 352, rfl⟩
abbrev main_v244 : Ref sig .tc := ⟨.hbm, 353, rfl⟩
abbrev main_cst_65 : Ref sig .tc := ⟨.hbm, 354, rfl⟩
abbrev main_v245 : Ref sig .tc := ⟨.hbm, 355, rfl⟩
abbrev main_v246 : Ref sig .tc := ⟨.hbm, 356, rfl⟩
abbrev main_cst_66 : Ref sig .tc := ⟨.hbm, 357, rfl⟩
abbrev main_v247 : Ref sig .tc := ⟨.hbm, 358, rfl⟩
abbrev main_v248 : Ref sig .tc := ⟨.hbm, 359, rfl⟩
abbrev main_cst_67 : Ref sig .tc := ⟨.hbm, 360, rfl⟩
abbrev main_v249 : Ref sig .tc := ⟨.hbm, 361, rfl⟩
abbrev main_v250 : Ref sig .tc := ⟨.hbm, 362, rfl⟩
abbrev main_v251 : Ref sig .tc := ⟨.hbm, 363, rfl⟩
abbrev main_v252 : Ref sig .tc := ⟨.hbm, 364, rfl⟩
abbrev main_v253 : Ref sig .tc := ⟨.hbm, 365, rfl⟩
abbrev main_v254 : Ref sig .tc := ⟨.hbm, 366, rfl⟩
abbrev main_c_68 : Ref sig .tc := ⟨.hbm, 367, rfl⟩
abbrev main_v255 : Ref sig .tc := ⟨.hbm, 368, rfl⟩
abbrev main_v256 : Ref sig .tc := ⟨.hbm, 369, rfl⟩
abbrev main_v257 : Ref sig .tc := ⟨.hbm, 370, rfl⟩
abbrev main_v258 : Ref sig .tc := ⟨.hbm, 371, rfl⟩
abbrev main_c_69 : Ref sig .tc := ⟨.hbm, 372, rfl⟩
abbrev main_v259 : Ref sig .tc := ⟨.hbm, 373, rfl⟩
abbrev main_v260 : Ref sig .tc := ⟨.hbm, 374, rfl⟩
abbrev main_c_70 : Ref sig .tc := ⟨.hbm, 375, rfl⟩
abbrev main_c_71 : Ref sig .tc := ⟨.hbm, 376, rfl⟩
abbrev main_call8_v0 : Ref sig .tc := ⟨.hbm, 377, rfl⟩
abbrev main_call8_v1 : Ref sig .tc := ⟨.hbm, 378, rfl⟩
abbrev main_call8_v2 : Ref sig .tc := ⟨.hbm, 379, rfl⟩
abbrev main_call8_v3 : Ref sig .tc := ⟨.hbm, 380, rfl⟩
abbrev main_call8_v4 : Ref sig .tc := ⟨.hbm, 381, rfl⟩
abbrev main_v261 : Ref sig .tc := ⟨.hbm, 382, rfl⟩
abbrev main_c_72 : Ref sig .tc := ⟨.hbm, 383, rfl⟩
abbrev main_c_73 : Ref sig .tc := ⟨.hbm, 384, rfl⟩
abbrev main_call9_v0 : Ref sig .tc := ⟨.hbm, 385, rfl⟩
abbrev main_call9_v1 : Ref sig .tc := ⟨.hbm, 386, rfl⟩
abbrev main_call9_v2 : Ref sig .tc := ⟨.hbm, 387, rfl⟩
abbrev main_call9_v3 : Ref sig .tc := ⟨.hbm, 388, rfl⟩
abbrev main_call9_v4 : Ref sig .tc := ⟨.hbm, 389, rfl⟩
abbrev main_v262 : Ref sig .tc := ⟨.hbm, 390, rfl⟩
abbrev main_c_74 : Ref sig .tc := ⟨.hbm, 391, rfl⟩
abbrev main_c_75 : Ref sig .tc := ⟨.hbm, 392, rfl⟩
abbrev main_call10_v0 : Ref sig .tc := ⟨.hbm, 393, rfl⟩
abbrev main_call10_v1 : Ref sig .tc := ⟨.hbm, 394, rfl⟩
abbrev main_call10_v2 : Ref sig .tc := ⟨.hbm, 395, rfl⟩
abbrev main_call10_v3 : Ref sig .tc := ⟨.hbm, 396, rfl⟩
abbrev main_call10_v4 : Ref sig .tc := ⟨.hbm, 397, rfl⟩
abbrev main_v263 : Ref sig .tc := ⟨.hbm, 398, rfl⟩
abbrev main_c_76 : Ref sig .tc := ⟨.hbm, 399, rfl⟩
abbrev main_c_77 : Ref sig .tc := ⟨.hbm, 400, rfl⟩
abbrev main_call11_v0 : Ref sig .tc := ⟨.hbm, 401, rfl⟩
abbrev main_call11_v1 : Ref sig .tc := ⟨.hbm, 402, rfl⟩
abbrev main_call11_v2 : Ref sig .tc := ⟨.hbm, 403, rfl⟩
abbrev main_call11_v3 : Ref sig .tc := ⟨.hbm, 404, rfl⟩
abbrev main_call11_v4 : Ref sig .tc := ⟨.hbm, 405, rfl⟩
abbrev main_v264 : Ref sig .tc := ⟨.hbm, 406, rfl⟩
abbrev main_c_78 : Ref sig .tc := ⟨.hbm, 407, rfl⟩
abbrev main_v265 : Ref sig .tc := ⟨.hbm, 408, rfl⟩
abbrev main_v266 : Ref sig .tc := ⟨.hbm, 409, rfl⟩
abbrev main_c_79 : Ref sig .tc := ⟨.hbm, 410, rfl⟩
abbrev main_v267 : Ref sig .tc := ⟨.hbm, 411, rfl⟩
abbrev main_v268 : Ref sig .tc := ⟨.hbm, 412, rfl⟩
abbrev main_v269 : Ref sig .tc := ⟨.hbm, 413, rfl⟩
abbrev main_c_80 : Ref sig .tc := ⟨.hbm, 414, rfl⟩
abbrev main_v270 : Ref sig .tc := ⟨.hbm, 415, rfl⟩
abbrev main_v271 : Ref sig .tc := ⟨.hbm, 416, rfl⟩
abbrev main_c_81 : Ref sig .tc := ⟨.hbm, 417, rfl⟩
abbrev main_v272 : Ref sig .tc := ⟨.hbm, 418, rfl⟩
abbrev main_v273 : Ref sig .tc := ⟨.hbm, 419, rfl⟩
abbrev main_v274 : Ref sig .tc := ⟨.hbm, 420, rfl⟩
abbrev main_v275 : Ref sig .tc := ⟨.hbm, 421, rfl⟩
abbrev main_v276 : Ref sig .tc := ⟨.hbm, 422, rfl⟩
abbrev main_v277 : Ref sig .tc := ⟨.hbm, 423, rfl⟩
abbrev main_v278 : Ref sig .tc := ⟨.hbm, 424, rfl⟩
abbrev main_c_82 : Ref sig .tc := ⟨.hbm, 425, rfl⟩
abbrev main_v279 : Ref sig .tc := ⟨.hbm, 426, rfl⟩
abbrev main_v280 : Ref sig .tc := ⟨.hbm, 427, rfl⟩
abbrev main_c_83 : Ref sig .tc := ⟨.hbm, 428, rfl⟩
abbrev main_v281 : Ref sig .tc := ⟨.hbm, 429, rfl⟩
abbrev main_v282 : Ref sig .tc := ⟨.hbm, 430, rfl⟩
abbrev main_v283 : Ref sig .tc := ⟨.hbm, 431, rfl⟩
abbrev main_c_84 : Ref sig .tc := ⟨.hbm, 432, rfl⟩
abbrev main_v284 : Ref sig .tc := ⟨.hbm, 433, rfl⟩
abbrev main_v285 : Ref sig .tc := ⟨.hbm, 434, rfl⟩
abbrev main_c_85 : Ref sig .tc := ⟨.hbm, 435, rfl⟩
abbrev main_v286 : Ref sig .tc := ⟨.hbm, 436, rfl⟩
abbrev main_v287 : Ref sig .tc := ⟨.hbm, 437, rfl⟩
abbrev main_v288 : Ref sig .tc := ⟨.hbm, 438, rfl⟩
abbrev main_v289 : Ref sig .tc := ⟨.hbm, 439, rfl⟩
abbrev main_v290 : Ref sig .tc := ⟨.hbm, 440, rfl⟩
abbrev main_v291 : Ref sig .tc := ⟨.hbm, 441, rfl⟩
abbrev main_v292 : Ref sig .tc := ⟨.hbm, 442, rfl⟩
abbrev main_c_86 : Ref sig .tc := ⟨.hbm, 443, rfl⟩
abbrev main_v293 : Ref sig .tc := ⟨.hbm, 444, rfl⟩
abbrev main_v294 : Ref sig .tc := ⟨.hbm, 445, rfl⟩
abbrev main_c_87 : Ref sig .tc := ⟨.hbm, 446, rfl⟩
abbrev main_v295 : Ref sig .tc := ⟨.hbm, 447, rfl⟩
abbrev main_v296 : Ref sig .tc := ⟨.hbm, 448, rfl⟩
abbrev main_v297 : Ref sig .tc := ⟨.hbm, 449, rfl⟩
abbrev main_c_88 : Ref sig .tc := ⟨.hbm, 450, rfl⟩
abbrev main_v298 : Ref sig .tc := ⟨.hbm, 451, rfl⟩
abbrev main_v299 : Ref sig .tc := ⟨.hbm, 452, rfl⟩
abbrev main_c_89 : Ref sig .tc := ⟨.hbm, 453, rfl⟩
abbrev main_v300 : Ref sig .tc := ⟨.hbm, 454, rfl⟩
abbrev main_v301 : Ref sig .tc := ⟨.hbm, 455, rfl⟩
abbrev main_v302 : Ref sig .tc := ⟨.hbm, 456, rfl⟩
abbrev main_v303 : Ref sig .tc := ⟨.hbm, 457, rfl⟩
abbrev main_v304 : Ref sig .tc := ⟨.hbm, 458, rfl⟩
abbrev main_v305 : Ref sig .tc := ⟨.hbm, 459, rfl⟩
abbrev main_v306 : Ref sig .tc := ⟨.hbm, 460, rfl⟩
abbrev main_c_90 : Ref sig .tc := ⟨.hbm, 461, rfl⟩
abbrev main_v307 : Ref sig .tc := ⟨.hbm, 462, rfl⟩
abbrev main_v308 : Ref sig .tc := ⟨.hbm, 463, rfl⟩
abbrev main_c_91 : Ref sig .tc := ⟨.hbm, 464, rfl⟩
abbrev main_v309 : Ref sig .tc := ⟨.hbm, 465, rfl⟩
abbrev main_v310 : Ref sig .tc := ⟨.hbm, 466, rfl⟩
abbrev main_v311 : Ref sig .tc := ⟨.hbm, 467, rfl⟩
abbrev main_c_92 : Ref sig .tc := ⟨.hbm, 468, rfl⟩
abbrev main_v312 : Ref sig .tc := ⟨.hbm, 469, rfl⟩
abbrev main_v313 : Ref sig .tc := ⟨.hbm, 470, rfl⟩
abbrev main_c_93 : Ref sig .tc := ⟨.hbm, 471, rfl⟩
abbrev main_v314 : Ref sig .tc := ⟨.hbm, 472, rfl⟩
abbrev main_v315 : Ref sig .tc := ⟨.hbm, 473, rfl⟩
abbrev main_v316 : Ref sig .tc := ⟨.hbm, 474, rfl⟩
abbrev main_v317 : Ref sig .tc := ⟨.hbm, 475, rfl⟩
abbrev main_v318 : Ref sig .tc := ⟨.hbm, 476, rfl⟩
abbrev main_v319 : Ref sig .tc := ⟨.hbm, 477, rfl⟩
abbrev main_v320 : Ref sig .tc := ⟨.hbm, 478, rfl⟩
abbrev main_v321 : Ref sig .tc := ⟨.hbm, 479, rfl⟩
abbrev main_v322 : Ref sig .tc := ⟨.hbm, 480, rfl⟩
abbrev main_v323 : Ref sig .tc := ⟨.hbm, 481, rfl⟩
abbrev main_v324 : Ref sig .tc := ⟨.hbm, 482, rfl⟩
abbrev main_v325 : Ref sig .tc := ⟨.hbm, 483, rfl⟩
abbrev main_v326 : Ref sig .tc := ⟨.hbm, 484, rfl⟩
abbrev main_v327 : Ref sig .tc := ⟨.hbm, 485, rfl⟩
abbrev main_v328 : Ref sig .tc := ⟨.hbm, 486, rfl⟩
abbrev main_v329 : Ref sig .tc := ⟨.hbm, 487, rfl⟩
abbrev main_v330 : Ref sig .tc := ⟨.hbm, 488, rfl⟩
abbrev main_v331 : Ref sig .tc := ⟨.hbm, 489, rfl⟩
abbrev main_v332 : Ref sig .tc := ⟨.hbm, 490, rfl⟩
abbrev main_v333 : Ref sig .tc := ⟨.hbm, 491, rfl⟩
abbrev main_v334 : Ref sig .tc := ⟨.hbm, 492, rfl⟩
abbrev main_v335 : Ref sig .tc := ⟨.hbm, 493, rfl⟩
abbrev main_v336 : Ref sig .tc := ⟨.hbm, 494, rfl⟩
abbrev main_v337 : Ref sig .tc := ⟨.hbm, 495, rfl⟩
abbrev main_v338 : Ref sig .tc := ⟨.hbm, 496, rfl⟩
abbrev main_v339 : Ref sig .tc := ⟨.hbm, 497, rfl⟩
abbrev main_v340 : Ref sig .tc := ⟨.hbm, 498, rfl⟩
abbrev main_v341 : Ref sig .tc := ⟨.hbm, 499, rfl⟩
abbrev main_v342 : Ref sig .tc := ⟨.hbm, 500, rfl⟩
abbrev main_v343 : Ref sig .tc := ⟨.hbm, 501, rfl⟩
abbrev main_v344 : Ref sig .tc := ⟨.hbm, 502, rfl⟩
abbrev main_v345 : Ref sig .tc := ⟨.hbm, 503, rfl⟩
abbrev main_v346 : Ref sig .tc := ⟨.hbm, 504, rfl⟩
abbrev main_v347 : Ref sig .tc := ⟨.hbm, 505, rfl⟩
abbrev main_v348 : Ref sig .tc := ⟨.hbm, 506, rfl⟩
abbrev main_v349 : Ref sig .tc := ⟨.hbm, 507, rfl⟩
abbrev main_v350 : Ref sig .tc := ⟨.hbm, 508, rfl⟩
abbrev main_v351 : Ref sig .tc := ⟨.hbm, 509, rfl⟩
abbrev main_v352 : Ref sig .tc := ⟨.hbm, 510, rfl⟩
abbrev main_v353 : Ref sig .tc := ⟨.hbm, 511, rfl⟩
abbrev main_cst_94 : Ref sig .tc := ⟨.hbm, 512, rfl⟩
abbrev main_v354 : Ref sig .tc := ⟨.hbm, 513, rfl⟩
abbrev main_v355 : Ref sig .tc := ⟨.hbm, 514, rfl⟩
abbrev main_cst_95 : Ref sig .tc := ⟨.hbm, 515, rfl⟩
abbrev main_v356 : Ref sig .tc := ⟨.hbm, 516, rfl⟩
abbrev main_v357 : Ref sig .tc := ⟨.hbm, 517, rfl⟩
abbrev main_cst_96 : Ref sig .tc := ⟨.hbm, 518, rfl⟩
abbrev main_v358 : Ref sig .tc := ⟨.hbm, 519, rfl⟩
abbrev main_v359 : Ref sig .tc := ⟨.hbm, 520, rfl⟩
abbrev main_v360 : Ref sig .tc := ⟨.hbm, 521, rfl⟩
abbrev main_v361 : Ref sig .tc := ⟨.hbm, 522, rfl⟩
abbrev main_cst_97 : Ref sig .tc := ⟨.hbm, 523, rfl⟩
abbrev main_v362 : Ref sig .tc := ⟨.hbm, 524, rfl⟩
abbrev main_v363 : Ref sig .tc := ⟨.hbm, 525, rfl⟩
abbrev main_cst_98 : Ref sig .tc := ⟨.hbm, 526, rfl⟩
abbrev main_v364 : Ref sig .tc := ⟨.hbm, 527, rfl⟩
abbrev main_v365 : Ref sig .tc := ⟨.hbm, 528, rfl⟩
abbrev main_cst_99 : Ref sig .tc := ⟨.hbm, 529, rfl⟩
abbrev main_v366 : Ref sig .tc := ⟨.hbm, 530, rfl⟩
abbrev main_v367 : Ref sig .tc := ⟨.hbm, 531, rfl⟩
abbrev main_v368 : Ref sig .tc := ⟨.hbm, 532, rfl⟩
abbrev main_v369 : Ref sig .tc := ⟨.hbm, 533, rfl⟩
abbrev main_v370 : Ref sig .tc := ⟨.hbm, 534, rfl⟩
abbrev main_v371 : Ref sig .tc := ⟨.hbm, 535, rfl⟩
abbrev main_c_100 : Ref sig .tc := ⟨.hbm, 536, rfl⟩
abbrev main_v372 : Ref sig .tc := ⟨.hbm, 537, rfl⟩
abbrev main_v373 : Ref sig .tc := ⟨.hbm, 538, rfl⟩
abbrev main_v374 : Ref sig .tc := ⟨.hbm, 539, rfl⟩
abbrev main_v375 : Ref sig .tc := ⟨.hbm, 540, rfl⟩
abbrev main_c_101 : Ref sig .tc := ⟨.hbm, 541, rfl⟩
abbrev main_v376 : Ref sig .tc := ⟨.hbm, 542, rfl⟩
abbrev main_v377 : Ref sig .tc := ⟨.hbm, 543, rfl⟩
abbrev main_c_102 : Ref sig .tc := ⟨.hbm, 544, rfl⟩
abbrev main_c_103 : Ref sig .tc := ⟨.hbm, 545, rfl⟩
abbrev main_call12_v0 : Ref sig .tc := ⟨.hbm, 546, rfl⟩
abbrev main_call12_v1 : Ref sig .tc := ⟨.hbm, 547, rfl⟩
abbrev main_call12_v2 : Ref sig .tc := ⟨.hbm, 548, rfl⟩
abbrev main_call12_v3 : Ref sig .tc := ⟨.hbm, 549, rfl⟩
abbrev main_call12_v4 : Ref sig .tc := ⟨.hbm, 550, rfl⟩
abbrev main_v378 : Ref sig .tc := ⟨.hbm, 551, rfl⟩
abbrev main_c_104 : Ref sig .tc := ⟨.hbm, 552, rfl⟩
abbrev main_c_105 : Ref sig .tc := ⟨.hbm, 553, rfl⟩
abbrev main_call13_v0 : Ref sig .tc := ⟨.hbm, 554, rfl⟩
abbrev main_call13_v1 : Ref sig .tc := ⟨.hbm, 555, rfl⟩
abbrev main_call13_v2 : Ref sig .tc := ⟨.hbm, 556, rfl⟩
abbrev main_call13_v3 : Ref sig .tc := ⟨.hbm, 557, rfl⟩
abbrev main_call13_v4 : Ref sig .tc := ⟨.hbm, 558, rfl⟩
abbrev main_v379 : Ref sig .tc := ⟨.hbm, 559, rfl⟩
abbrev main_c_106 : Ref sig .tc := ⟨.hbm, 560, rfl⟩
abbrev main_c_107 : Ref sig .tc := ⟨.hbm, 561, rfl⟩
abbrev main_call14_v0 : Ref sig .tc := ⟨.hbm, 562, rfl⟩
abbrev main_call14_v1 : Ref sig .tc := ⟨.hbm, 563, rfl⟩
abbrev main_call14_v2 : Ref sig .tc := ⟨.hbm, 564, rfl⟩
abbrev main_call14_v3 : Ref sig .tc := ⟨.hbm, 565, rfl⟩
abbrev main_call14_v4 : Ref sig .tc := ⟨.hbm, 566, rfl⟩
abbrev main_v380 : Ref sig .tc := ⟨.hbm, 567, rfl⟩
abbrev main_c_108 : Ref sig .tc := ⟨.hbm, 568, rfl⟩
abbrev main_c_109 : Ref sig .tc := ⟨.hbm, 569, rfl⟩
abbrev main_call15_v0 : Ref sig .tc := ⟨.hbm, 570, rfl⟩
abbrev main_call15_v1 : Ref sig .tc := ⟨.hbm, 571, rfl⟩
abbrev main_call15_v2 : Ref sig .tc := ⟨.hbm, 572, rfl⟩
abbrev main_call15_v3 : Ref sig .tc := ⟨.hbm, 573, rfl⟩
abbrev main_call15_v4 : Ref sig .tc := ⟨.hbm, 574, rfl⟩
abbrev main_v381 : Ref sig .tc := ⟨.hbm, 575, rfl⟩
abbrev main_c_110 : Ref sig .tc := ⟨.hbm, 576, rfl⟩
abbrev main_v382 : Ref sig .tc := ⟨.hbm, 577, rfl⟩
abbrev main_v383 : Ref sig .tc := ⟨.hbm, 578, rfl⟩
abbrev main_c_111 : Ref sig .tc := ⟨.hbm, 579, rfl⟩
abbrev main_v384 : Ref sig .tc := ⟨.hbm, 580, rfl⟩
abbrev main_v385 : Ref sig .tc := ⟨.hbm, 581, rfl⟩
abbrev main_v386 : Ref sig .tc := ⟨.hbm, 582, rfl⟩
abbrev main_c_112 : Ref sig .tc := ⟨.hbm, 583, rfl⟩
abbrev main_v387 : Ref sig .tc := ⟨.hbm, 584, rfl⟩
abbrev main_v388 : Ref sig .tc := ⟨.hbm, 585, rfl⟩
abbrev main_c_113 : Ref sig .tc := ⟨.hbm, 586, rfl⟩
abbrev main_v389 : Ref sig .tc := ⟨.hbm, 587, rfl⟩
abbrev main_v390 : Ref sig .tc := ⟨.hbm, 588, rfl⟩
abbrev main_v391 : Ref sig .tc := ⟨.hbm, 589, rfl⟩
abbrev main_v392 : Ref sig .tc := ⟨.hbm, 590, rfl⟩
abbrev main_v393 : Ref sig .tc := ⟨.hbm, 591, rfl⟩
abbrev main_v394 : Ref sig .tc := ⟨.hbm, 592, rfl⟩
abbrev main_v395 : Ref sig .tc := ⟨.hbm, 593, rfl⟩
abbrev main_c_114 : Ref sig .tc := ⟨.hbm, 594, rfl⟩
abbrev main_v396 : Ref sig .tc := ⟨.hbm, 595, rfl⟩
abbrev main_v397 : Ref sig .tc := ⟨.hbm, 596, rfl⟩
abbrev main_c_115 : Ref sig .tc := ⟨.hbm, 597, rfl⟩
abbrev main_v398 : Ref sig .tc := ⟨.hbm, 598, rfl⟩
abbrev main_v399 : Ref sig .tc := ⟨.hbm, 599, rfl⟩
abbrev main_v400 : Ref sig .tc := ⟨.hbm, 600, rfl⟩
abbrev main_c_116 : Ref sig .tc := ⟨.hbm, 601, rfl⟩
abbrev main_v401 : Ref sig .tc := ⟨.hbm, 602, rfl⟩
abbrev main_v402 : Ref sig .tc := ⟨.hbm, 603, rfl⟩
abbrev main_c_117 : Ref sig .tc := ⟨.hbm, 604, rfl⟩
abbrev main_v403 : Ref sig .tc := ⟨.hbm, 605, rfl⟩
abbrev main_v404 : Ref sig .tc := ⟨.hbm, 606, rfl⟩
abbrev main_v405 : Ref sig .tc := ⟨.hbm, 607, rfl⟩
abbrev main_v406 : Ref sig .tc := ⟨.hbm, 608, rfl⟩
abbrev main_v407 : Ref sig .tc := ⟨.hbm, 609, rfl⟩
abbrev main_v408 : Ref sig .tc := ⟨.hbm, 610, rfl⟩
abbrev main_v409 : Ref sig .tc := ⟨.hbm, 611, rfl⟩
abbrev main_c_118 : Ref sig .tc := ⟨.hbm, 612, rfl⟩
abbrev main_v410 : Ref sig .tc := ⟨.hbm, 613, rfl⟩
abbrev main_v411 : Ref sig .tc := ⟨.hbm, 614, rfl⟩
abbrev main_c_119 : Ref sig .tc := ⟨.hbm, 615, rfl⟩
abbrev main_v412 : Ref sig .tc := ⟨.hbm, 616, rfl⟩
abbrev main_v413 : Ref sig .tc := ⟨.hbm, 617, rfl⟩
abbrev main_v414 : Ref sig .tc := ⟨.hbm, 618, rfl⟩
abbrev main_c_120 : Ref sig .tc := ⟨.hbm, 619, rfl⟩
abbrev main_v415 : Ref sig .tc := ⟨.hbm, 620, rfl⟩
abbrev main_v416 : Ref sig .tc := ⟨.hbm, 621, rfl⟩
abbrev main_c_121 : Ref sig .tc := ⟨.hbm, 622, rfl⟩
abbrev main_v417 : Ref sig .tc := ⟨.hbm, 623, rfl⟩
abbrev main_v418 : Ref sig .tc := ⟨.hbm, 624, rfl⟩
abbrev main_v419 : Ref sig .tc := ⟨.hbm, 625, rfl⟩
abbrev main_v420 : Ref sig .tc := ⟨.hbm, 626, rfl⟩
abbrev main_v421 : Ref sig .tc := ⟨.hbm, 627, rfl⟩
abbrev main_v422 : Ref sig .tc := ⟨.hbm, 628, rfl⟩
abbrev main_v423 : Ref sig .tc := ⟨.hbm, 629, rfl⟩
abbrev main_c_122 : Ref sig .tc := ⟨.hbm, 630, rfl⟩
abbrev main_v424 : Ref sig .tc := ⟨.hbm, 631, rfl⟩
abbrev main_v425 : Ref sig .tc := ⟨.hbm, 632, rfl⟩
abbrev main_c_123 : Ref sig .tc := ⟨.hbm, 633, rfl⟩
abbrev main_v426 : Ref sig .tc := ⟨.hbm, 634, rfl⟩
abbrev main_v427 : Ref sig .tc := ⟨.hbm, 635, rfl⟩
abbrev main_v428 : Ref sig .tc := ⟨.hbm, 636, rfl⟩
abbrev main_c_124 : Ref sig .tc := ⟨.hbm, 637, rfl⟩
abbrev main_v429 : Ref sig .tc := ⟨.hbm, 638, rfl⟩
abbrev main_v430 : Ref sig .tc := ⟨.hbm, 639, rfl⟩
abbrev main_c_125 : Ref sig .tc := ⟨.hbm, 640, rfl⟩
abbrev main_v431 : Ref sig .tc := ⟨.hbm, 641, rfl⟩
abbrev main_v432 : Ref sig .tc := ⟨.hbm, 642, rfl⟩
abbrev main_v433 : Ref sig .tc := ⟨.hbm, 643, rfl⟩
abbrev main_v434 : Ref sig .tc := ⟨.hbm, 644, rfl⟩
abbrev main_v435 : Ref sig .tc := ⟨.hbm, 645, rfl⟩
abbrev main_v436 : Ref sig .tc := ⟨.hbm, 646, rfl⟩
abbrev main_v437 : Ref sig .tc := ⟨.hbm, 647, rfl⟩
abbrev main_v438 : Ref sig .tc := ⟨.hbm, 648, rfl⟩
abbrev main_v439 : Ref sig .tc := ⟨.hbm, 649, rfl⟩
abbrev main_v440 : Ref sig .tc := ⟨.hbm, 650, rfl⟩
abbrev main_v441 : Ref sig .tc := ⟨.hbm, 651, rfl⟩
abbrev main_v442 : Ref sig .tc := ⟨.hbm, 652, rfl⟩
abbrev main_v443 : Ref sig .tc := ⟨.hbm, 653, rfl⟩
abbrev main_v444 : Ref sig .tc := ⟨.hbm, 654, rfl⟩
abbrev main_v445 : Ref sig .tc := ⟨.hbm, 655, rfl⟩
abbrev main_v446 : Ref sig .tc := ⟨.hbm, 656, rfl⟩
abbrev main_v447 : Ref sig .tc := ⟨.hbm, 657, rfl⟩
abbrev main_v448 : Ref sig .tc := ⟨.hbm, 658, rfl⟩
abbrev main_v449 : Ref sig .tc := ⟨.hbm, 659, rfl⟩
abbrev main_v450 : Ref sig .tc := ⟨.hbm, 660, rfl⟩
abbrev main_v451 : Ref sig .tc := ⟨.hbm, 661, rfl⟩
abbrev main_v452 : Ref sig .tc := ⟨.hbm, 662, rfl⟩
abbrev main_v453 : Ref sig .tc := ⟨.hbm, 663, rfl⟩
abbrev main_v454 : Ref sig .tc := ⟨.hbm, 664, rfl⟩
abbrev main_v455 : Ref sig .tc := ⟨.hbm, 665, rfl⟩
abbrev main_v456 : Ref sig .tc := ⟨.hbm, 666, rfl⟩
abbrev main_v457 : Ref sig .tc := ⟨.hbm, 667, rfl⟩
abbrev main_v458 : Ref sig .tc := ⟨.hbm, 668, rfl⟩
abbrev main_v459 : Ref sig .tc := ⟨.hbm, 669, rfl⟩
abbrev main_v460 : Ref sig .tc := ⟨.hbm, 670, rfl⟩
abbrev main_v461 : Ref sig .tc := ⟨.hbm, 671, rfl⟩
abbrev main_v462 : Ref sig .tc := ⟨.hbm, 672, rfl⟩
abbrev main_v463 : Ref sig .tc := ⟨.hbm, 673, rfl⟩
abbrev main_v464 : Ref sig .tc := ⟨.hbm, 674, rfl⟩
abbrev main_v465 : Ref sig .tc := ⟨.hbm, 675, rfl⟩
abbrev main_v466 : Ref sig .tc := ⟨.hbm, 676, rfl⟩
abbrev main_v467 : Ref sig .tc := ⟨.hbm, 677, rfl⟩
abbrev main_v468 : Ref sig .tc := ⟨.hbm, 678, rfl⟩
abbrev main_v469 : Ref sig .tc := ⟨.hbm, 679, rfl⟩
abbrev main_v470 : Ref sig .tc := ⟨.hbm, 680, rfl⟩
abbrev main_v471 : Ref sig .tc := ⟨.hbm, 681, rfl⟩
abbrev main_v472 : Ref sig .tc := ⟨.hbm, 682, rfl⟩
abbrev main_v473 : Ref sig .tc := ⟨.hbm, 683, rfl⟩

abbrev nD : Nat := 1
abbrev τ : Topo := Topo.v7x

variable {F : FTy → Type} [FloatOps F]
-- ==== Proof.Sampling.lean ====
/-
  The arithmetic of one bilinear sample, free of any program.

  A coordinate `t` of the map is a real number with `89 ≤ t < 92`. The cell below it is `89`, `90` or `91` (`cellOf`),
  and `t` minus that cell is its fractional part. `weight t p q` is the weight that the kernel gives to a cell from two
  comparisons of the cell below with the numbers `p` and `q`; `weight_eq` says what it is for each of the four cells of
  the patch: one minus the fractional part at the cell below, the fractional part at the cell above, zero at the two
  others. `patch_sum` is the statement that the sum of sixteen weighted cells is the sum of four: the other twelve have
  weight zero, and zero times any extended real is zero.
-/
module

public import Idealize.ShloMosaic.PureOps.Ideal
public import Idealize.ShloMosaic.Lib.ValueIdx

@[expose] public section

noncomputable section

namespace Cert.Sampling

open Idealize.ShloMosaic
open scoped BigOperators

/-! ## The literals of the two programs -/

theorem lit_zero : Ideal.ofBits .f32 0x00000000#32 = ((0 : ℝ) : EReal) := by
  simp [Ideal.ofBits, Ideal.ieee]
theorem lit_one : Ideal.ofBits .f32 0x3F800000#32 = ((1 : ℝ) : EReal) := by
  simp [Ideal.ofBits, Ideal.ieee, -EReal.coe_mul]; norm_num
theorem lit_eight : Ideal.ofBits .f32 0x41000000#32 = ((8 : ℝ) : EReal) := by
  simp [Ideal.ofBits, Ideal.ieee, -EReal.coe_mul]; norm_num
theorem lit_88 : Ideal.ofBits .f32 0x42B00000#32 = ((88 : ℝ) : EReal) := by
  simp [Ideal.ofBits, Ideal.ieee, -EReal.coe_mul]; norm_num
theorem lit_89 : Ideal.ofBits .f32 0x42B20000#32 = ((89 : ℝ) : EReal) := by
  simp [Ideal.ofBits, Ideal.ieee, -EReal.coe_mul]; norm_num
theorem lit_90 : Ideal.ofBits .f32 0x42B40000#32 = ((90 : ℝ) : EReal) := by
  simp [Ideal.ofBits, Ideal.ieee, -EReal.coe_mul]; norm_num
theorem lit_91 : Ideal.ofBits .f32 0x42B60000#32 = ((91 : ℝ) : EReal) := by
  simp [Ideal.ofBits, Ideal.ieee, -EReal.coe_mul]; norm_num
theorem lit_92 : Ideal.ofBits .f32 0x42B80000#32 = ((92 : ℝ) : EReal) := by
  simp [Ideal.ofBits, Ideal.ieee, -EReal.coe_mul]; norm_num
theorem lit_neg54 : Ideal.ofBits .f32 0xC2580000#32 = ((-54 : ℝ) : EReal) := by
  simp [Ideal.ofBits, Ideal.ieee, -EReal.coe_mul, -EReal.coe_neg]; norm_num
/-- The lower bound of the precondition. -/
theorem lit_low : Ideal.ofBits .f32 0xBF180000#32 = ((-(19 / 32) : ℝ) : EReal) := by
  simp [Ideal.ofBits, Ideal.ieee, -EReal.coe_mul, -EReal.coe_neg]; norm_num
/-- The upper bound of the precondition. -/
theorem lit_high : Ideal.ofBits .f32 0x3F980000#32 = ((19 / 16 : ℝ) : EReal) := by
  simp [Ideal.ofBits, Ideal.ieee, -EReal.coe_mul]; norm_num
/-- The voxel size, `0.075` rounded to a single-precision number: the same literal in both programs. -/
theorem lit_voxel : Ideal.ofBits .f32 0x3D99999A#32 = ((10066330 / 134217728 : ℝ) : EReal) := by
  simp [Ideal.ofBits, Ideal.ieee, -EReal.coe_mul]; norm_num

/-! ## From a centre's coordinate to the map's -/

/-- The map coordinate of a centre's coordinate `c`, as both programs compute it: offset, voxel size, stride. -/
def mapCoord (c : EReal) : EReal :=
  Ideal.div (Ideal.div (c - Ideal.ofBits .f32 0xC2580000#32) (Ideal.ofBits .f32 0x3D99999A#32)) (Ideal.ofBits .f32 0x41000000#32)

/-- A centre's coordinate between the two bounds of the precondition has its map coordinate in the patch. -/
theorem mapCoord_mem (c : EReal) (hl : Ideal.ofBits .f32 0xBF180000#32 ≤ c) (hu : c < Ideal.ofBits .f32 0x3F980000#32) :
    ∃ t : ℝ, mapCoord c = (t : EReal) ∧ 89 ≤ t ∧ t < 92 := by
  rw [lit_low] at hl
  rw [lit_high] at hu
  induction c using EReal.rec with
  | bot => exact absurd hl (not_le.mpr (EReal.bot_lt_coe _))
  | top => exact absurd hu (not_lt.mpr le_top)
  | coe c =>
    have hl' : -(19 / 32) ≤ c := by exact_mod_cast hl
    have hu' : c < 19 / 16 := by exact_mod_cast hu
    refine ⟨(c - -54) * (1 / (10066330 / 134217728)) * (1 / 8), ?_, ?_, ?_⟩
    · unfold mapCoord
      rw [lit_neg54, lit_voxel, lit_eight, Ideal.div_coe (by norm_num), Ideal.div_coe (by norm_num), ← EReal.coe_sub,
        ← EReal.coe_mul, ← EReal.coe_mul]
    · norm_num; linarith
    · norm_num; linarith

/-! ## The cell below a coordinate -/

/-- `t` lies in the patch, in its cell number `i` (of three): cell `89 + i` of the map is the cell below. -/
structure InCell (t : ℝ) (i : Fin 3) : Prop where
  floor_eq : ⌊t⌋ = 89 + (i.val : ℤ)

/-- Every coordinate of the patch is in one of its three cells. -/
theorem cellOf {t : ℝ} (hl : 89 ≤ t) (hu : t < 92) : ∃ i : Fin 3, InCell t i := by
  have h1 : (89 : ℤ) ≤ ⌊t⌋ := Int.le_floor.mpr (by exact_mod_cast hl)
  have h2 : ⌊t⌋ < (92 : ℤ) := Int.floor_lt.mpr (by exact_mod_cast hu)
  refine ⟨⟨(⌊t⌋ - 89).toNat, by omega⟩, ⟨?_⟩⟩
  show ⌊t⌋ = 89 + (((⌊t⌋ - 89).toNat : ℕ) : ℤ)
  omega

/-- The cell below, as an extended real. -/
theorem floor_coe {t : ℝ} {i : Fin 3} (h : InCell t i) :
    Ideal.liftRound Int.floor (t : EReal) = ((89 + (i.val : ℝ) : ℝ) : EReal) := by
  rw [Ideal.liftRound_coe, h.floor_eq]; push_cast; rfl

/-! ## The kernel's weights -/

/-- The kernel's cell below, kept between `89` and `91`. -/
def low (t : EReal) : EReal :=
  min (Ideal.ofBits .f32 0x42B60000#32) (max (Ideal.ofBits .f32 0x42B20000#32) (Ideal.liftRound Int.floor t))

/-- The kernel's weight of a cell: the distance to the cell above if the cell below is `p`, plus the distance to the cell
    below if that is `q`. -/
def weight (t p q : EReal) : EReal :=
  Scalar.select (Ideal.cmp .oeq (low t) p) (low t + Ideal.ofBits .f32 0x3F800000#32 - t) (Ideal.ofBits .f32 0x00000000#32)
    + Scalar.select (Ideal.cmp .oeq (low t) q) (t - low t) (Ideal.ofBits .f32 0x00000000#32)

theorem low_coe {t : ℝ} {i : Fin 3} (h : InCell t i) : low (t : EReal) = ((89 + (i.val : ℝ) : ℝ) : EReal) := by
  have hi : (i.val : ℝ) ≤ 2 := by exact_mod_cast (by omega : i.val ≤ 2)
  have hi0 : (0 : ℝ) ≤ (i.val : ℝ) := Nat.cast_nonneg _
  unfold low
  rw [floor_coe h, lit_89, lit_91, max_eq_right (EReal.coe_le_coe_iff.mpr (by linarith)),
    min_eq_right (EReal.coe_le_coe_iff.mpr (by linarith))]

/-- The two numbers that the kernel compares with for cell `j` of the four. -/
def above : Fin 4 → EReal
  | 0 => Ideal.ofBits .f32 0x42B20000#32
  | 1 => Ideal.ofBits .f32 0x42B40000#32
  | 2 => Ideal.ofBits .f32 0x42B60000#32
  | 3 => Ideal.ofBits .f32 0x42B80000#32
def below : Fin 4 → EReal
  | 0 => Ideal.ofBits .f32 0x42B00000#32
  | 1 => Ideal.ofBits .f32 0x42B20000#32
  | 2 => Ideal.ofBits .f32 0x42B40000#32
  | 3 => Ideal.ofBits .f32 0x42B60000#32

theorem above_eq (j : Fin 4) : above j = ((89 + (j.val : ℝ) : ℝ) : EReal) := by
  match j with
  | 0 => show Ideal.ofBits .f32 0x42B20000#32 = _; rw [lit_89]; norm_num
  | 1 => show Ideal.ofBits .f32 0x42B40000#32 = _; rw [lit_90]; norm_num
  | 2 => show Ideal.ofBits .f32 0x42B60000#32 = _; rw [lit_91]; norm_num
  | 3 => show Ideal.ofBits .f32 0x42B80000#32 = _; rw [lit_92]; norm_num
theorem below_eq (j : Fin 4) : below j = ((88 + (j.val : ℝ) : ℝ) : EReal) := by
  match j with
  | 0 => show Ideal.ofBits .f32 0x42B00000#32 = _; rw [lit_88]; norm_num
  | 1 => show Ideal.ofBits .f32 0x42B20000#32 = _; rw [lit_89]; norm_num
  | 2 => show Ideal.ofBits .f32 0x42B40000#32 = _; rw [lit_90]; norm_num
  | 3 => show Ideal.ofBits .f32 0x42B60000#32 = _; rw [lit_91]; norm_num

/-- A selection on an equality of two reals is the `if`. -/
theorem select_oeq (a b : ℝ) (x y : EReal) :
    Scalar.select (Ideal.cmp .oeq (a : EReal) (b : EReal)) x y = if a = b then x else y := by
  by_cases h : a = b
  · subst h; simp [Ideal.cmp, ValueIdx.select_one]
  · rw [if_neg h]
    have : (a : EReal) ≠ (b : EReal) := fun e => h (by exact_mod_cast e)
    simp [Ideal.cmp, this, ValueIdx.select_zero]

/-- What the kernel's weight of cell `j` is for a coordinate in cell `i`. -/
theorem weight_eq {t : ℝ} {i : Fin 3} (h : InCell t i) (j : Fin 4) :
    weight (t : EReal) (above j) (below j)
      = if j = i.castSucc then ((89 + (i.val : ℝ) + 1 - t : ℝ) : EReal)
        else if j = i.succ then ((t - (89 + (i.val : ℝ)) : ℝ) : EReal) else 0 := by
  unfold weight
  rw [low_coe h, above_eq, below_eq, select_oeq, select_oeq, lit_zero, lit_one, ← EReal.coe_add, ← EReal.coe_sub, ← EReal.coe_sub]
  have h1 : ((89 + (i.val : ℝ) : ℝ) = 89 + (j.val : ℝ)) ↔ j = i.castSucc := by
    rw [Fin.ext_iff, Fin.val_castSucc, add_right_inj, Nat.cast_inj]; exact eq_comm
  have h2 : ((89 + (i.val : ℝ) : ℝ) = 88 + (j.val : ℝ)) ↔ j = i.succ := by
    rw [Fin.ext_iff, Fin.val_succ]
    constructor
    · intro e
      have : ((i.val + 1 : ℕ) : ℝ) = (j.val : ℝ) := by push_cast; linarith
      exact (Nat.cast_inj.mp this).symm
    · intro e; rw [e]; push_cast; ring
  rw [if_congr h1 rfl rfl, if_congr h2 rfl rfl]
  by_cases e1 : j = i.castSucc
  · rw [if_pos e1, if_pos e1, if_neg (by rw [e1]; exact (Fin.castSucc_lt_succ).ne)]; simp
  · rw [if_neg e1, if_neg e1]
    by_cases e2 : j = i.succ
    · rw [if_pos e2, if_pos e2]; simp
    · rw [if_neg e2, if_neg e2]; simp

/-! ## Sixteen cells and four -/

/-- The four-cell sample of the map `p`, cells numbered from `89`, at a coordinate `x` along the columns in cell `i` and
    `y` along the rows in cell `k`; the order of the terms is the reference's. -/
def sample4 (x y : ℝ) (i k : Fin 3) (p : Fin 4 → Fin 4 → EReal) : EReal :=
  p k.castSucc i.castSucc * (((89 + (i.val : ℝ) + 1 - x : ℝ) : EReal) * ((89 + (k.val : ℝ) + 1 - y : ℝ) : EReal))
    + p k.succ i.castSucc * (((89 + (i.val : ℝ) + 1 - x : ℝ) : EReal) * ((y - (89 + (k.val : ℝ)) : ℝ) : EReal))
    + p k.castSucc i.succ * (((x - (89 + (i.val : ℝ)) : ℝ) : EReal) * ((89 + (k.val : ℝ) + 1 - y : ℝ) : EReal))
    + p k.succ i.succ * (((x - (89 + (i.val : ℝ)) : ℝ) : EReal) * ((y - (89 + (k.val : ℝ)) : ℝ) : EReal))

/-- A sum of four terms of which only two neighbouring ones are not zero. -/
theorem sum_two (i : Fin 3) (a b : EReal) (g : Fin 4 → EReal → EReal) (hg : ∀ j, g j 0 = 0) :
    ∑ j : Fin 4, g j (if j = i.castSucc then a else if j = i.succ then b else 0) = g i.castSucc a + g i.succ b := by
  rw [Fin.sum_univ_four]
  match i with
  | 0 => simp [hg, Fin.ext_iff]
  | 1 => simp [hg, Fin.ext_iff]
  | 2 => simp [hg, Fin.ext_iff]

/-- The sum of sixteen weighted cells, row by row, is the sum of four. -/
theorem patch_sum {x y : ℝ} {i k : Fin 3} (hx : InCell x i) (hy : InCell y k) (p : Fin 4 → Fin 4 → EReal) :
    ∑ r : Fin 4, ∑ c : Fin 4, weight (y : EReal) (above r) (below r) * weight (x : EReal) (above c) (below c) * p r c
      = sample4 x y i k p := by
  simp only [weight_eq hx, weight_eq hy]
  rw [sum_two k _ _ (fun r w => ∑ c : Fin 4, w * (if c = i.castSucc then _ else if c = i.succ then _ else 0) * p r c)
    (fun r => by simp)]
  rw [sum_two i _ _ (fun c w => _ * w * p _ c) (fun c => by simp), sum_two i _ _ (fun c w => _ * w * p _ c) (fun c => by simp)]
  unfold sample4
  rw [mul_comm (p _ _), mul_comm (p _ _), mul_comm (p _ _), mul_comm (p _ _)]
  simp only [mul_comm (((y - _ : ℝ) : EReal)), mul_comm (((89 + (k.val : ℝ) + 1 - y : ℝ) : EReal))]
  abel

/-! ## The whole result -/

open ValueIdx in
/-- Cell `(r, c)` of the patch of batch `b`, channel `ch`: cell `(89 + r, 89 + c)` of the map. -/
def cellAt (w : (⟨4, ![4, 256, 180, 180]⟩ : Shape).Idx → EReal) (b : Fin 4) (ch : Fin 256) (r c : Fin 4) : EReal :=
  w (ix4 b ch (⟨89 + r.val, by omega⟩ : Fin 180) (⟨89 + c.val, by omega⟩ : Fin 180))

open ValueIdx in
/-- The kernel's result at batch `b`, centre `n`, channel `ch`: the weighted sum over the patch. -/
def patched (v : (⟨3, ![4, 4096, 3]⟩ : Shape).Idx → EReal) (w : (⟨4, ![4, 256, 180, 180]⟩ : Shape).Idx → EReal)
    (b : Fin 4) (n : Fin 4096) (ch : Fin 256) : EReal :=
  ∑ r : Fin 4, ∑ c : Fin 4, weight (mapCoord (v (ix3 b n (1 : Fin 3)))) (above r) (below r)
    * weight (mapCoord (v (ix3 b n (0 : Fin 3)))) (above c) (below c) * cellAt w b ch r c

/-- A sum over the sixteen cells in row-major order is the sum over the rows of the sums over the columns. -/
theorem sum_sixteen (f : Fin 4 → Fin 4 → EReal) :
    ∑ k : Fin 16, f (⟨k.val / 4, by omega⟩ : Fin 4) (⟨k.val % 4, by omega⟩ : Fin 4) = ∑ r : Fin 4, ∑ c : Fin 4, f r c := by
  rw [← Fintype.sum_prod_type', ← Equiv.sum_comp (finProdFinEquiv (m := 4) (n := 4))]
  refine Finset.sum_congr rfl fun p _ => ?_
  have h1 : (finProdFinEquiv p).val = p.2.val + 4 * p.1.val := rfl
  congr 1
  · exact Fin.ext (by show (finProdFinEquiv p).val / 4 = _; rw [h1]; omega)
  · exact Fin.ext (by show (finProdFinEquiv p).val % 4 = _; rw [h1]; omega)

end Cert.Sampling

end
-- ==== Proof.KernelValue.lean ====
/-
  What the kernel's result array holds: at batch `b`, centre `n`, channel `ch` the sum over the sixteen cells of the
  patch of weight times feature (`Sampling.patched`), for any contents of the argument arrays.

  One block (`out_apply`): the body's store is a product of a 16 × 4096 table of weights and a 16 × 256 patch, so an
  entry of the block is a sum over the patch's sixteen cells; row `k` of the table is the weight of row `k / 4` times that
  of column `k % 4` (`out_eq`). The blocks' operands are read off the argument arrays through the program's slices,
  transpositions and reshape (`coords_apply`, `patch_apply`), and the four blocks tile the result (`final`).
-/
module

public import proofs.«01_k».proof.Proof.Gen.KernelIdeal.Value
public import proofs.«01_k».proof.Proof.Sampling
public import Idealize.ShloMosaic.Lib.ValueIdx
public import Idealize.ShloMosaic.Lib.Pointwise
public import Idealize.ShloMosaic.Lib.Pipeline.ValueKit
public import Idealize.ShloMosaic.Lib.Claim

@[expose] public section

set_option maxRecDepth 16384

noncomputable section

namespace Cert.KernelIdeal.KerValue

open Cert.KernelIdeal Cert.KernelIdeal.Gen Cert.Sampling
open Idealize.ShloMosaic hiding ix0 ix1 ix2 ix3 ix4 eq_ix1 eq_ix2 eq_ix3 eq_ix4
open Idealize.ShloMosaic.TcCoe Idealize.ShloMosaic.ValueIdx Idealize.SL.Sem
open Idealize.ShloMosaic.Pipeline (Dat)
open scoped BigOperators

/-! ## One block -/

/-- The map coordinates of a block's centres along `x`. -/
def mapX (x0 : Vec Ideal S1x2x4096 .f32) : FVec Ideal S4096 .f32 := fun i =>
  mapCoord (shapeCast S4096 (View.ld x0 r0_0) shapeCasts_S1x1x4096_S4096 i)

/-- The map coordinates of a block's centres along `y`. -/
def mapY (x0 : Vec Ideal S1x2x4096 .f32) : FVec Ideal S4096 .f32 := fun i =>
  mapCoord (shapeCast S4096 (View.ld x0 r0_1) shapeCasts_S1x1x4096_S4096 i)

/-- The weights of cell `j` along one axis, from the map coordinates along it. -/
def weights (t : FVec Ideal S4096 .f32) (j : Fin 4) : FVec Ideal S4096 .f32 := fun i => weight (t i) (above j) (below j)

/-- Row `k` of the table of weights, from the block of coordinates. -/
def tableRow (x0 : Vec Ideal S1x2x4096 .f32) (k : Fin 16) : FVec Ideal S4096 .f32 :=
  mulf (weights (mapY x0) (⟨k.val / 4, by omega⟩ : Fin 4)) (weights (mapX x0) (⟨k.val % 4, by omega⟩ : Fin 4))

/-- The sixteen rows, each as a row of a matrix. -/
def rows (x0 : Vec Ideal S1x2x4096 .f32) (k : Fin 16) : FVec Ideal S1x4096 .f32 :=
  shapeCast S1x4096 (tableRow x0 k) shapeCasts_S4096_S1x4096

/-- The table of weights. -/
def table (x0 : Vec Ideal S1x2x4096 .f32) : FVec Ideal S16x4096 .f32 :=
  concatenate S16x4096 0 (List.ofFn fun k : Fin 16 => (⟨S1x4096, rows x0 k⟩ : (s : Shape) × (s.Idx → Ideal .f32)))
    concatenates_S1x4096_S1x4096_S1x4096_S1x4096_S1x4096_S1x4096_S1x4096_S1x4096_S1x4096_S1x4096_S1x4096_S1x4096_S1x4096_S1x4096_S1x4096_S1x4096_S16x4096_d0

/-- The body's map coordinates and weights are these, on either axis. -/
theorem pay3_eq (x0 : Vec Ideal S1x2x4096 .f32) : k0_pay3 (View.ld x0 r0_0) = mapX x0 := rfl
theorem pay37_eq (x0 : Vec Ideal S1x2x4096 .f32) (x1 : Vec Ideal S1x16x256 .f32) : k0_pay37 x0 x1 = mapY x0 := rfl
theorem pay41_eq (x0 : Vec Ideal S1x2x4096 .f32) (x1 : Vec Ideal S1x16x256 .f32) : k0_pay41 x0 x1 = weights (mapX x0) 0 := rfl
theorem pay42_eq (x0 : Vec Ideal S1x2x4096 .f32) (x1 : Vec Ideal S1x16x256 .f32) : k0_pay42 x0 x1 = weights (mapX x0) 1 := rfl
theorem pay43_eq (x0 : Vec Ideal S1x2x4096 .f32) (x1 : Vec Ideal S1x16x256 .f32) : k0_pay43 x0 x1 = weights (mapX x0) 2 := rfl
theorem pay44_eq (x0 : Vec Ideal S1x2x4096 .f32) (x1 : Vec Ideal S1x16x256 .f32) : k0_pay44 x0 x1 = weights (mapX x0) 3 := rfl
theorem pay48_eq (x0 : Vec Ideal S1x2x4096 .f32) (x1 : Vec Ideal S1x16x256 .f32) : k0_pay48 x0 x1 = weights (mapY x0) 0 := rfl
theorem pay18_eq (x0 : Vec Ideal S1x2x4096 .f32) (x1 : Vec Ideal S1x16x256 .f32) :
    k0_pay18 (k0_pay45 x0 x1) (k0_pay46 x0 x1) (k0_pay47 x0 x1) (k0_pay49 x0 x1) = weights (mapY x0) 1 := rfl
theorem pay19_eq (x0 : Vec Ideal S1x2x4096 .f32) (x1 : Vec Ideal S1x16x256 .f32) :
    k0_pay19 (k0_pay45 x0 x1) (k0_pay46 x0 x1) (k0_pay47 x0 x1) = weights (mapY x0) 2 := rfl
theorem pay20_eq (x0 : Vec Ideal S1x2x4096 .f32) (x1 : Vec Ideal S1x16x256 .f32) :
    k0_pay20 (k0_pay45 x0 x1) (k0_pay46 x0 x1) (k0_pay47 x0 x1) = weights (mapY x0) 3 := rfl

theorem hz3 : (![0, 0, 0] : Fin 3 → Nat) = fun _ => 0 := funext fun a => by
  match a with
  | ⟨0, _⟩ => rfl
  | ⟨1, _⟩ => rfl
  | ⟨2, _⟩ => rfl

/-- The body's store is the product of the table and the patch. -/
theorem out_eq (x0 : Vec Ideal S1x2x4096 .f32) (x1 : Vec Ideal S1x16x256 .f32) :
    out0_2 x0 x1 = k0_pay2 (table x0) x1 := by
  unfold out0_2
  rw [View.canon_unit_zero hz3, View.ld_unit_zero (S := S1x16x256) hz3]
  refine congrArg (fun w => k0_pay2 w x1) ?_
  simp only [k0_pay21, k0_pay22, k0_pay23, k0_pay24, k0_pay25, k0_pay26, k0_pay27, k0_pay28, k0_pay29, k0_pay30, k0_pay31,
    k0_pay32, k0_pay33, k0_pay34, k0_pay35, k0_pay36, pay18_eq, pay19_eq, pay20_eq, pay41_eq, pay42_eq, pay43_eq, pay44_eq,
    pay48_eq]
  rfl

/-- The table at row `k` and centre `n`. -/
theorem table_apply (x0 : Vec Ideal S1x2x4096 .f32) (k : Fin 16) (n : Fin 4096) :
    table x0 (ix2 k n) = tableRow x0 k (ix1 n) := by
  unfold table
  refine (concatenate_ofFn_unit_apply' 0 (rows x0) _ rfl (ix2 k n)).trans ?_
  show shapeCast S1x4096 (tableRow x0 k) shapeCasts_S4096_S1x4096 _ = _
  refine shapeCast_apply _ _ _ (ix1 n) ?_
  rw [Shape.rowMajor_val_one, Shape.rowMajor_val_two]
  simp [Shape.Idx.norm_def]

/-- The product contracts one axis, of the sixteen cells. -/
theorem contr_rank : dot_S16x4096_S16x256_S4096x256_0_0_1_1_n_n.contr.rank = 1 := rfl
theorem contr_size : dot_S16x4096_S16x256_S4096x256_0_0_1_1_n_n.contr.size ⟨0, Nat.zero_lt_one⟩ = 16 := rfl

/-- The cells as the product's contraction indices. -/
abbrev cells : dot_S16x4096_S16x256_S4096x256_0_0_1_1_n_n.contr.Idx ≃ Fin 16 :=
  contrEquiv1 dot_S16x4096_S16x256_S4096x256_0_0_1_1_n_n 16 contr_rank contr_size

/-- One entry of a block of the result: the sum over the sixteen cells. -/
theorem out_apply (x0 : Vec Ideal S1x2x4096 .f32) (x1 : Vec Ideal S1x16x256 .f32) (n : Fin 4096) (ch : Fin 256) :
    out0_2 x0 x1 (ix3 (0 : Fin 1) n ch) = ∑ k : Fin 16, tableRow x0 k (ix1 n) * x1 (ix3 (0 : Fin 1) k ch) := by
  rw [out_eq]
  unfold k0_pay2
  rw [shapeCast_apply _ _ (ix3 (0 : Fin 1) n ch) (ix2 n ch) (by
    rw [Shape.rowMajor_val_two, Shape.rowMajor_val_three]; simp)]
  show Ideal.matmul dot_S16x4096_S16x256_S4096x256_0_0_1_1_n_n _ _ _ (ix2 n ch) = _
  unfold Ideal.matmul
  rw [← Equiv.sum_comp cells.symm]
  show Ideal.ofBits .f32 0x00000000#32 + _ = _
  rw [lit_zero, EReal.coe_zero, zero_add]
  refine Finset.sum_congr rfl fun k _ => ?_
  have hk := contrEquiv1_symm_val dot_S16x4096_S16x256_S4096x256_0_0_1_1_n_n 16 contr_rank contr_size k
  have hl : dot_S16x4096_S16x256_S4096x256_0_0_1_1_n_n.lhsIdx (ix2 n ch)
      (cells.symm k) = ix2 k n := by
    funext a; apply Fin.ext
    match a with
    | ⟨0, _⟩ => exact hk
    | ⟨1, _⟩ => rfl
  have hr : dot_S16x4096_S16x256_S4096x256_0_0_1_1_n_n.rhsIdx (ix2 n ch)
      (cells.symm k) = ix2 k ch := by
    funext a; apply Fin.ext
    match a with
    | ⟨0, _⟩ => exact hk
    | ⟨1, _⟩ => rfl
  rw [hl, hr, table_apply]
  refine congrArg _ (shapeCast_apply _ _ _ _ ?_)
  rw [Shape.rowMajor_val_two, Shape.rowMajor_val_three]; simp

/-! ## The operands of a block -/

variable (m : (ℓ : Loc nD τ sig) → Buf (Elt Ideal) ℓ)

/-- The block index of each window is the batch. -/
theorem index_0 : ∀ t : Fin cfg0.N, win0_0.index t = ![t.val, 0, 0] := (by decide +kernel : ∀ t : Fin grid0.N, _)
theorem index_1 : ∀ t : Fin cfg0.N, win0_1.index t = ![t.val, 0, 0] := (by decide +kernel : ∀ t : Fin grid0.N, _)
theorem index_2 : ∀ t : Fin cfg0.N, win0_2.index t = ![t.val, 0, 0] := (by decide +kernel : ∀ t : Fin grid0.N, _)

/-- What the kernel reads coordinates from: the first two coordinates of the centres, turned. -/
theorem coords_eq (c : Dev nD) : V m c main_v4 = transpose S4x2x4096 [0, 2, 1]
    (extractStridedSlice S4x4096x2 ![0, 0, 0] (m ((c : Thread nD τ).loc main_arg0)) slices_S4x4096x3_S4x4096x2_0_0_0)
    transposes_S4x4096x2_S4x2x4096_0_2_1 := by
  show StableHlo.after hostOps0 _ (Proc.devRef .tc main_v4) = _
  after_results

/-- What the kernel reads features from: the patch of each channel, turned and flattened. -/
theorem patch_eq (c : Dev nD) : V m c main_v2 = shapeCast S4x16x256 (transpose S4x4x4x256 [0, 2, 3, 1]
    (extractStridedSlice S4x256x4x4 ![0, 0, 89, 89] (m ((c : Thread nD τ).loc main_arg1)) slices_S4x256x180x180_S4x256x4x4_0_0_89_89)
    transposes_S4x256x4x4_S4x4x4x256_0_2_3_1) shapeCasts_S4x4x4x256_S4x16x256 := by
  show StableHlo.after hostOps0 _ (Proc.devRef .tc main_v2) = _
  after_results
  rfl

/-- Coordinate `j` of centre `n` in the block of batch `b`. -/
theorem coords_apply (c : Dev nD) (b : Fin 4) (j : Fin 2) (n : Fin 4096) :
    V m c main_v4 (ix3 b j n) = m ((c : Thread nD τ).loc main_arg0) (ix3 b n (⟨j.val, by omega⟩ : Fin 3)) := by
  rw [coords_eq]
  rw [transpose_apply _ _ _ (ix3 b j n) (ix3 b n j) (fun a => by
    match a with
    | ⟨0, _⟩ => rfl
    | ⟨1, _⟩ => rfl
    | ⟨2, _⟩ => rfl)]
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm

/-- Cell `k` of channel `ch` in the block of batch `b`. -/
theorem patch_apply (c : Dev nD) (b : Fin 4) (k : Fin 16) (ch : Fin 256) :
    V m c main_v2 (ix3 b k ch) = cellAt (m ((c : Thread nD τ).loc main_arg1)) b ch
      (⟨k.val / 4, by omega⟩ : Fin 4) (⟨k.val % 4, by omega⟩ : Fin 4) := by
  rw [patch_eq]
  rw [shapeCast_apply _ _ (ix3 b k ch) (ix4 b (⟨k.val / 4, by omega⟩ : Fin 4) (⟨k.val % 4, by omega⟩ : Fin 4) ch) (by
    rw [Shape.rowMajor_val_three, Shape.rowMajor_val_four]
    show ((b.val * 4 + k.val / 4) * 4 + k.val % 4) * 256 + ch.val = (b.val * 16 + k.val) * 256 + ch.val
    omega)]
  rw [transpose_apply _ _ _ _ (ix4 b ch (⟨k.val / 4, by omega⟩ : Fin 4) (⟨k.val % 4, by omega⟩ : Fin 4)) (fun a => by
    match a with
    | ⟨0, _⟩ => rfl
    | ⟨1, _⟩ => rfl
    | ⟨2, _⟩ => rfl
    | ⟨3, _⟩ => rfl)]
  refine extractStridedSlice_apply _ _ _ _ _ fun a => ?_
  match a with
  | ⟨0, _⟩ => exact (Nat.zero_add _).symm
  | ⟨1, _⟩ => exact (Nat.zero_add _).symm
  | ⟨2, _⟩ => rfl
  | ⟨3, _⟩ => rfl

/-- A coordinate read from a block, by the two loads of the body. -/
theorem mapX_apply (x0 : Vec Ideal S1x2x4096 .f32) (n : Fin 4096) :
    mapX x0 (ix1 n) = mapCoord (x0 (ix3 (0 : Fin 1) (0 : Fin 2) n)) := by
  refine congrArg mapCoord ((shapeCast_apply _ _ _ (ix3 (0 : Fin 1) (0 : Fin 1) n) ?_).trans ?_)
  · rw [Shape.rowMajor_val_one, Shape.rowMajor_val_three]; simp
  · refine congrArg x0 (funext fun a => Fin.ext ?_)
    match a with
    | ⟨0, _⟩ => rfl
    | ⟨1, _⟩ => rfl
    | ⟨2, _⟩ => show 0 + 1 * n.val = n.val; omega

theorem mapY_apply (x0 : Vec Ideal S1x2x4096 .f32) (n : Fin 4096) :
    mapY x0 (ix1 n) = mapCoord (x0 (ix3 (0 : Fin 1) (1 : Fin 2) n)) := by
  refine congrArg mapCoord ((shapeCast_apply _ _ _ (ix3 (0 : Fin 1) (0 : Fin 1) n) ?_).trans ?_)
  · rw [Shape.rowMajor_val_one, Shape.rowMajor_val_three]; simp
  · refine congrArg x0 (funext fun a => Fin.ext ?_)
    match a with
    | ⟨0, _⟩ => rfl
    | ⟨1, _⟩ => rfl
    | ⟨2, _⟩ => show 0 + 1 * n.val = n.val; omega

/-! ## The whole array -/

theorem final (c : Dev nD) : (dats m 0 c).arrAt 2 cfg0.N = fun i : S4x4096x256.Idx =>
    patched (m ((c : Thread nD τ).loc main_arg0)) (m ((c : Thread nD τ).loc main_arg1)) (i 0) (i 1) (i 2) := by
  refine (dats m 0 c).arrAt_eq_of_covers 2 _ (by decide +kernel) fun t hf y => ?_
  blk_simp
  rw [after0_2]
  obtain ⟨n, ch, hy⟩ : ∃ (n : Fin 4096) (ch : Fin 256), y = ix3 (0 : Fin 1) n ch :=
    ⟨y 1, y 2, by
      funext a
      match a with
      | ⟨0, _⟩ => exact Fin.ext (by have : (y 0).val < 1 := (y 0).isLt; show (y 0).val = 0; omega)
      | ⟨1, _⟩ => rfl
      | ⟨2, _⟩ => rfl⟩
  subst hy
  have ht : t.val < 4 := lt_of_lt_of_eq t.isLt N_0
  have e0 : (win0_2.blk t).view.emb (ix3 (0 : Fin 1) n ch) = ix3 (⟨t.val, ht⟩ : Fin 4) n ch := by
    blk_ext [index_2]
  rw [e0]
  refine (out_apply _ _ n ch).trans ?_
  unfold patched
  rw [← sum_sixteen (fun r q => weight _ (above r) (below r) * weight _ (above q) (below q) * cellAt _ _ _ r q)]
  refine Finset.sum_congr rfl fun k _ => ?_
  have e1 : iblk m c 1 t (ix3 (0 : Fin 1) k ch) = V m c main_v2 (ix3 (⟨t.val, ht⟩ : Fin 4) k ch) := by
    blk_simp [iblk]
    exact congrArg (V m c main_v2) (by blk_ext [index_1])
  have e2 (j : Fin 2) : iblk m c 0 t (ix3 (0 : Fin 1) j n) = V m c main_v4 (ix3 (⟨t.val, ht⟩ : Fin 4) j n) := by
    blk_simp [iblk]
    exact congrArg (V m c main_v4) (by blk_ext [index_0])
  refine congrArg₂ (· * ·) ?_ (e1.trans (patch_apply m c _ k ch))
  show weights _ _ _ * weights _ _ _ = _
  unfold weights
  rw [mapX_apply, mapY_apply]
  rw [(e2 0).trans (coords_apply m c _ 0 n), (e2 1).trans (coords_apply m c _ 1 n)]
  rfl

variable (ρ : Dev nD → PrngReg)

/-- The run: the result array holds the weighted sums, and the arguments are unchanged. -/
theorem run : θ_run defs (onTc (τ := τ) (main (F := Ideal))) ⟨m, fun _ => 0, ρ⟩ fun r => ∀ c : Dev nD,
      r.2.mem ((c : Thread nD τ).loc main_v5) = (fun i : S4x4096x256.Idx =>
        patched (m ((c : Thread nD τ).loc main_arg0)) (m ((c : Thread nD τ).loc main_arg1)) (i 0) (i 1) (i 2))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.KerValue

end
-- ==== Proof.ReferenceValue.lean ====
/-
  What the reference's result array holds at a centre whose map coordinates are in the patch: the four cells around the
  centre, each times its weight (`Sampling.sample4`).

  The reference does the same with each of the four batches. `bilerp` is that, over an image and two arrays of map
  coordinates, operation by operation as the reference has it; `batch_0` to `batch_3` say that the reference's four stages
  are it at the four batches. At a centre whose coordinates are in known cells, the cell numbers are known words
  (`below_word`, `above_word`), which neither the clamp to the map nor the wrap of negative numbers changes, so that the
  gather reads the cell itself (`sample_apply`), and the four weights are the products of distances (`bilerp_apply`).
-/
module

public import proofs.«01_k».proof.Proof.Gen.ReferenceIdeal.Read
public import proofs.«01_k».proof.Proof.Sampling
public import Idealize.ShloMosaic.Lib.ValueIdx
public import Idealize.ShloMosaic.Lib.Pointwise
public import Idealize.ShloMosaic.Lib.Claim

@[expose] public section

set_option maxRecDepth 16384

noncomputable section

namespace Cert.ReferenceIdeal.RefValue

open Cert.ReferenceIdeal Cert.ReferenceIdeal.Gen Cert.ReferenceIdeal.Read Cert.Sampling
open Idealize.ShloMosaic hiding ix0 ix1 ix2 ix3 ix4 eq_ix1 eq_ix2 eq_ix3 eq_ix4
open Idealize.ShloMosaic.TcCoe Idealize.ShloMosaic.ValueIdx Idealize.SL.Sem
open scoped BigOperators

/-! ## The reference's operations, for any batch -/

/-- One word, or one number, at every centre. -/
def splatI (b : BitVec 32) : IVec S4096 32 := broadcastInDim S4096 ![] bcast_S_S4096 (constantI S_ 32 b)
def splatF (b : BitVec 32) : FVec Ideal S4096 .f32 := broadcastInDim S4096 ![] bcast_S_S4096 (constant S_ .f32 b)

/-- The number of the cell below a coordinate and of the cell above it. -/
def cellBelow (t : FVec Ideal S4096 .f32) : IVec S4096 32 := fptosi 32 (Host.floor t)
def cellAbove (t : FVec Ideal S4096 .f32) : IVec S4096 32 := addi (cellBelow t) (splatI 1#32)

/-- A cell number clamped to the map. -/
def clampMap (v : IVec S4096 32) : IVec S4096 32 := minsi (splatI 179#32) (maxsi (splatI 0#32) v)

/-- A negative cell number counted from the map's end. -/
def wrapMap (v : IVec S4096 32) : IVec S4096 32 := select (cmpi .slt v (splatI 0#32)) (addi v (splatI 180#32)) v

/-- The pairs of cell numbers that the gather reads. -/
def pairs (y x : IVec S4096 32) : IVec S4096x2 32 :=
  concatenate S4096x2 1 [⟨S4096x1, broadcastInDim S4096x1 ![0] bcast_S4096_S4096x1_0 (wrapMap y)⟩,
    ⟨S4096x1, broadcastInDim S4096x1 ![0] bcast_S4096_S4096x1_0 (wrapMap x)⟩] concatenates_S4096x1_S4096x1_S4096x2_d1

/-- The features of the cells. -/
def sample (im : FVec Ideal S180x180x256 .f32) (y x : IVec S4096 32) : FVec Ideal S4096x256 .f32 :=
  Host.gather gather_S180x180x256_S4096x2_S4096x256_1_01_n_n_01_1_11256 im (pairs y x)

/-- One number per centre, at every channel. -/
def spread (w : FVec Ideal S4096 .f32) : FVec Ideal S4096x256 .f32 :=
  broadcastInDim S4096x256 ![0, 1] bcast_S4096x1_S4096x256_0_1 (broadcastInDim S4096x1 ![0] bcast_S4096_S4096x1_0 w)

/-- The interpolation of an image at map coordinates. -/
def bilerp (im : FVec Ideal S180x180x256 .f32) (x y : FVec Ideal S4096 .f32) : FVec Ideal S4096x256 .f32 :=
  addf (addf (addf
    (mulf (sample im (clampMap (cellBelow y)) (clampMap (cellBelow x)))
      (spread (mulf (subf (sitofp .f32 (clampMap (cellAbove x))) x) (subf (sitofp .f32 (clampMap (cellAbove y))) y))))
    (mulf (sample im (clampMap (cellAbove y)) (clampMap (cellBelow x)))
      (spread (mulf (subf (sitofp .f32 (clampMap (cellAbove x))) x) (subf y (sitofp .f32 (clampMap (cellBelow y))))))))
    (mulf (sample im (clampMap (cellBelow y)) (clampMap (cellAbove x)))
      (spread (mulf (subf x (sitofp .f32 (clampMap (cellBelow x)))) (subf (sitofp .f32 (clampMap (cellAbove y))) y)))))
    (mulf (sample im (clampMap (cellAbove y)) (clampMap (cellAbove x)))
      (spread (mulf (subf x (sitofp .f32 (clampMap (cellBelow x)))) (subf y (sitofp .f32 (clampMap (cellBelow y)))))))

theorem slices_coord (b : Fin 4) (j : Fin 2) : S4x4096x3.Slices ![b.val, 0, j.val] S1x4096x1 := by
  revert b j; decide

theorem slices_image (b : Fin 4) : S4x180x180x256.Slices ![b.val, 0, 0, 0] S1x180x180x256 := by
  revert b; decide

/-- The map coordinates `j` of the centres of batch `b`. -/
def coordsOf (v : FVec Ideal S4x4096x3 .f32) (b : Fin 4) (j : Fin 2) : FVec Ideal S4096 .f32 :=
  Host.divf (Host.divf (subf (shapeCast S4096 (extractStridedSlice S1x4096x1 ![b.val, 0, j.val] v (slices_coord b j)) shapeCasts_S1x4096x1_S4096)
    (splatF 0xC2580000#32)) (splatF 0x3D99999A#32)) (splatF 0x41000000#32)

/-- The map of batch `b`, its channels last. -/
def imageOf (w : FVec Ideal S4x256x180x180 .f32) (b : Fin 4) : FVec Ideal S180x180x256 .f32 :=
  shapeCast S180x180x256 (extractStridedSlice S1x180x180x256 ![b.val, 0, 0, 0]
    (transpose S4x180x180x256 [0, 2, 3, 1] w transposes_S4x256x180x180_S4x180x180x256_0_2_3_1) (slices_image b)) shapeCasts_S1x180x180x256_S180x180x256

/-- The interpolation for batch `b`. -/
def batch (v : FVec Ideal S4x4096x3 .f32) (w : FVec Ideal S4x256x180x180 .f32) (b : Fin 4) : FVec Ideal S4096x256 .f32 :=
  bilerp (imageOf w b) (coordsOf v b 0) (coordsOf v b 1)

/-- The reference's four stages are it. -/
theorem batch_0 (v : FVec Ideal S4x4096x3 .f32) (w : FVec Ideal S4x256x180x180 .f32) : val_main_v117 (F := Ideal) v w = batch v w 0 := rfl
theorem batch_1 (v : FVec Ideal S4x4096x3 .f32) (w : FVec Ideal S4x256x180x180 .f32) : val_main_v234 (F := Ideal) v w = batch v w 1 := rfl
theorem batch_2 (v : FVec Ideal S4x4096x3 .f32) (w : FVec Ideal S4x256x180x180 .f32) : val_main_v351 (F := Ideal) v w = batch v w 2 := rfl
theorem batch_3 (v : FVec Ideal S4x4096x3 .f32) (w : FVec Ideal S4x256x180x180 .f32) : val_main_v468 (F := Ideal) v w = batch v w 3 := rfl

/-- A batch as a slab of the result. -/
def slab (v : FVec Ideal S4x4096x3 .f32) (w : FVec Ideal S4x256x180x180 .f32) (b : Fin 4) : FVec Ideal S1x4096x256 .f32 :=
  broadcastInDim S1x4096x256 ![1, 2] bcast_S4096x256_S1x4096x256_1_2 (batch v w b)

/-- The reference's result is the four slabs. -/
theorem result_eq (v : FVec Ideal S4x4096x3 .f32) (w : FVec Ideal S4x256x180x180 .f32) :
    val_main_v473 (F := Ideal) v w = concatenate S4x4096x256 0
      (List.ofFn fun b : Fin 4 => (⟨S1x4096x256, slab v w b⟩ : (s : Shape) × (s.Idx → Ideal .f32)))
      concatenates_S1x4096x256_S1x4096x256_S1x4096x256_S1x4096x256_S4x4096x256_d0 := by
  unfold val_main_v473 val_main_v469 val_main_v470 val_main_v471 val_main_v472
  rw [batch_0, batch_1, batch_2, batch_3]
  rfl

/-! ## The layout operations at an index -/

/-- Coordinate `j` of batch `b` at centre `n` is the map coordinate of the centre's. -/
theorem coordsOf_apply (v : FVec Ideal S4x4096x3 .f32) (b : Fin 4) (j : Fin 2) (n : Fin 4096) :
    coordsOf v b j (ix1 n) = mapCoord (v (ix3 b n (⟨j.val, by omega⟩ : Fin 3))) := by
  refine congrArg mapCoord ((shapeCast_apply _ _ _ (ix3 (0 : Fin 1) n (0 : Fin 1)) ?_).trans ?_)
  · rw [Shape.rowMajor_val_one, Shape.rowMajor_val_three]; simp
  · refine extractStridedSlice_apply _ _ _ _ _ fun a => ?_
    match a with
    | ⟨0, _⟩ => rfl
    | ⟨1, _⟩ => exact (Nat.zero_add _).symm
    | ⟨2, _⟩ => rfl

/-- Cell `(r, q)` of channel `ch` of the image of batch `b`. -/
theorem imageOf_apply (w : FVec Ideal S4x256x180x180 .f32) (b : Fin 4) (r q : Fin 180) (ch : Fin 256) :
    imageOf w b (ix3 r q ch) = w (ix4 b ch r q) := by
  refine (shapeCast_apply _ _ _ (ix4 (0 : Fin 1) r q ch) ?_).trans ((extractStridedSlice_apply _ _ _ _ (ix4 b r q ch) ?_).trans
    (transpose_apply _ _ _ _ (ix4 b ch r q) ?_))
  · rw [Shape.rowMajor_val_three, Shape.rowMajor_val_four]; simp
  · intro a
    match a with
    | ⟨0, _⟩ => rfl
    | ⟨1, _⟩ => exact (Nat.zero_add _).symm
    | ⟨2, _⟩ => exact (Nat.zero_add _).symm
    | ⟨3, _⟩ => exact (Nat.zero_add _).symm
  · intro a
    match a with
    | ⟨0, _⟩ => rfl
    | ⟨1, _⟩ => rfl
    | ⟨2, _⟩ => rfl
    | ⟨3, _⟩ => rfl

theorem column_apply {α : Type} (x : S4096.Idx → α) (n : Fin 4096) (z : Fin 1) :
    broadcastInDim S4096x1 ![0] bcast_S4096_S4096x1_0 x (ix2 n z) = x (ix1 n) :=
  broadcastInDim_apply _ _ _ _ _ fun a => by
    match a with
    | ⟨0, _⟩ => rfl

theorem spread_apply (w : FVec Ideal S4096 .f32) (n : Fin 4096) (ch : Fin 256) : spread w (ix2 n ch) = w (ix1 n) :=
  (broadcastInDim_apply _ _ _ _ (ix2 n (0 : Fin 1)) fun a => by
    match a with
    | ⟨0, _⟩ => rfl
    | ⟨1, _⟩ => rfl).trans (column_apply w n 0)

theorem pairs_left (y x : IVec S4096 32) (n : Fin 4096) : pairs y x (ix2 n (0 : Fin 2)) = wrapMap y (ix1 n) := by
  refine Eq.trans ?_ (column_apply (wrapMap y) n 0)
  refine concatenate_pair_apply_left (s₁ := S4096x1) (s₂ := S4096x1) _ _ _ _ (ix2 n (0 : Fin 2)) rfl (ix2 n (0 : Fin 1)) fun b => ?_
  match b with
  | ⟨0, _⟩ => rfl
  | ⟨1, _⟩ => rfl

theorem pairs_right (y x : IVec S4096 32) (n : Fin 4096) : pairs y x (ix2 n (1 : Fin 2)) = wrapMap x (ix1 n) := by
  refine Eq.trans ?_ (column_apply (wrapMap x) n 0)
  refine concatenate_pair_apply_right (s₁ := S4096x1) (s₂ := S4096x1) _ _ _ _ (ix2 n (1 : Fin 2)) rfl rfl (ix2 n (0 : Fin 1)) (fun b hb => ?_) rfl
  match b with
  | ⟨0, _⟩ => rfl
  | ⟨1, _⟩ => exact absurd rfl hb

/-! ## Cell numbers -/

/-- The word of cell `p` of the patch, `89 + p`. -/
def cellWord (p : Fin 4) : BitVec 32 := BitVec.ofNat 32 (89 + p.val)

theorem below_word {t : FVec Ideal S4096 .f32} {n : Fin 4096} {x : ℝ} {i : Fin 3} (ht : t (ix1 n) = (x : EReal)) (h : InCell x i) :
    cellBelow t (ix1 n) = cellWord i.castSucc := by
  show Ideal.fptosi 32 (Ideal.liftRound Int.floor (t (ix1 n))) = _
  rw [ht, Ideal.liftRound_coe, h.floor_eq]
  unfold Ideal.fptosi
  rw [Ideal.toIntClamped_coe, Int.floor_intCast, Int.ceil_intCast, ite_self]; clear h ht; revert i; decide

theorem above_word {t : FVec Ideal S4096 .f32} {n : Fin 4096} {x : ℝ} {i : Fin 3} (ht : t (ix1 n) = (x : EReal)) (h : InCell x i) :
    cellAbove t (ix1 n) = cellWord i.succ := by
  show IntOp.addi (cellBelow t (ix1 n)) 1#32 = _
  rw [below_word ht h]; clear h; revert i; decide

/-- The clamp to the map leaves a cell of the patch. -/
theorem clamp_word {v : IVec S4096 32} {n : Fin 4096} {p : Fin 4} (h : v (ix1 n) = cellWord p) : clampMap v (ix1 n) = cellWord p := by
  show IntOp.minsi 179#32 (IntOp.maxsi 0#32 (v (ix1 n))) = _
  rw [h]; clear h; revert p; decide

/-- So does the wrap. -/
theorem wrap_word {v : IVec S4096 32} {n : Fin 4096} {p : Fin 4} (h : v (ix1 n) = cellWord p) : wrapMap v (ix1 n) = cellWord p := by
  show Scalar.select (IntOp.cmpi .slt (v (ix1 n)) 0#32) (IntOp.addi (v (ix1 n)) 180#32) (v (ix1 n)) = _
  rw [h]; clear h; revert p; decide

theorem toInt_word (p : Fin 4) : (cellWord p).toInt = 89 + (p.val : ℤ) := by revert p; decide

/-- The number of a cell, as a number. -/
theorem sitofp_word {v : IVec S4096 32} {n : Fin 4096} {p : Fin 4} (h : v (ix1 n) = cellWord p) :
    (sitofp .f32 v : FVec Ideal S4096 .f32) (ix1 n) = ((89 + (p.val : ℝ) : ℝ) : EReal) := by
  show (((v (ix1 n)).toInt : ℝ) : EReal) = _
  rw [h, toInt_word]; push_cast; rfl

/-! ## The gather -/

abbrev dims : GatherDims S180x180x256 S4096x2 S4096x256 := gather_S180x180x256_S4096x2_S4096x256_1_01_n_n_01_1_11256

theorem sample_apply (im : FVec Ideal S180x180x256 .f32) {y x : IVec S4096 32} {n : Fin 4096} {p q : Fin 4}
    (hy : y (ix1 n) = cellWord p) (hx : x (ix1 n) = cellWord q) (ch : Fin 256) :
    sample im y x (ix2 n ch) = im (ix3 (⟨89 + p.val, by omega⟩ : Fin 180) (⟨89 + q.val, by omega⟩ : Fin 180) ch) := by
  unfold sample Host.gather
  refine congrArg im (funext fun a => Fin.ext ?_)
  show dims.start (ix2 n ch) (pairs y x) a + dims.batchCoord (ix2 n ch) a + dims.offCoord (ix2 n ch) a = _
  rw [GatherDims.batchCoord_eq_zero _ _ _ (fun h => by simp [dims, gather_S180x180x256_S4096x2_S4096x256_1_01_n_n_01_1_11256] at h)]
  have hs0 : dims.siIdx (ix2 n ch) ⟨0, by decide⟩ = ix2 n (0 : Fin 2) := by
    funext b; refine Fin.ext ?_
    match b with
    | ⟨0, _⟩ => rfl
    | ⟨1, _⟩ => rfl
  have hs1 : dims.siIdx (ix2 n ch) ⟨1, by decide⟩ = ix2 n (1 : Fin 2) := by
    funext b; refine Fin.ext ?_
    match b with
    | ⟨0, _⟩ => rfl
    | ⟨1, _⟩ => rfl
  match a with
  | ⟨0, _⟩ =>
    have e : dims.start (ix2 n ch) (pairs y x) 0 = 89 + p.val := by
      show min (pairs y x (dims.siIdx (ix2 n ch) ⟨0, _⟩)).toInt.toNat (180 - 1) = _
      rw [hs0, pairs_left, wrap_word hy, toInt_word]; omega
    have o : dims.offCoord (ix2 n ch) 0 = 0 := rfl
    show dims.start (ix2 n ch) (pairs y x) 0 + 0 + dims.offCoord (ix2 n ch) 0 = 89 + p.val
    rw [e, o]; rfl
  | ⟨1, _⟩ =>
    have e : dims.start (ix2 n ch) (pairs y x) 1 = 89 + q.val := by
      show min (pairs y x (dims.siIdx (ix2 n ch) ⟨1, _⟩)).toInt.toNat (180 - 1) = _
      rw [hs1, pairs_right, wrap_word hx, toInt_word]; omega
    have o : dims.offCoord (ix2 n ch) 1 = 0 := rfl
    show dims.start (ix2 n ch) (pairs y x) 1 + 0 + dims.offCoord (ix2 n ch) 1 = 89 + q.val
    rw [e, o]; rfl
  | ⟨2, _⟩ =>
    have e : dims.start (ix2 n ch) (pairs y x) 2 = 0 := rfl
    have o : dims.offCoord (ix2 n ch) 2 = ch.val := rfl
    show dims.start (ix2 n ch) (pairs y x) 2 + 0 + dims.offCoord (ix2 n ch) 2 = ch.val
    rw [e, o]; omega

/-! ## The interpolation -/

theorem bilerp_apply (im : FVec Ideal S180x180x256 .f32) (x y : FVec Ideal S4096 .f32) {n : Fin 4096} {s t : ℝ} {i k : Fin 3}
    (hx : x (ix1 n) = (s : EReal)) (hy : y (ix1 n) = (t : EReal)) (hi : InCell s i) (hk : InCell t k) (ch : Fin 256) :
    bilerp im x y (ix2 n ch)
      = sample4 s t i k fun r q => im (ix3 (⟨89 + r.val, by omega⟩ : Fin 180) (⟨89 + q.val, by omega⟩ : Fin 180) ch) := by
  have x0 := clamp_word (below_word hx hi)
  have x1 := clamp_word (above_word hx hi)
  have y0 := clamp_word (below_word hy hk)
  have y1 := clamp_word (above_word hy hk)
  unfold bilerp sample4
  simp only [addf_apply, mulf_apply, subf_apply, spread_apply, sample_apply im y0 x0, sample_apply im y1 x0, sample_apply im y0 x1,
    sample_apply im y1 x1, sitofp_word x0, sitofp_word x1, sitofp_word y0, sitofp_word y1, hx, hy]
  simp only [← EReal.coe_sub, ← EReal.coe_mul, Fin.val_succ, Fin.val_castSucc, Nat.cast_add, Nat.cast_one, ← add_assoc]

/-- The reference's result at a centre in the patch. -/
theorem result_apply (v : FVec Ideal S4x4096x3 .f32) (w : FVec Ideal S4x256x180x180 .f32) (b : Fin 4) (n : Fin 4096) (ch : Fin 256)
    {s t : ℝ} {i k : Fin 3} (hx : mapCoord (v (ix3 b n (0 : Fin 3))) = (s : EReal)) (hy : mapCoord (v (ix3 b n (1 : Fin 3))) = (t : EReal))
    (hi : InCell s i) (hk : InCell t k) :
    val_main_v473 (F := Ideal) v w (ix3 b n ch) = sample4 s t i k (cellAt w b ch) := by
  rw [result_eq]
  refine (concatenate_ofFn_unit_apply' 0 (slab v w) _ rfl (ix3 b n ch)).trans ?_
  refine (broadcastInDim_apply _ _ _ _ (ix2 n ch) fun a => by
    match a with
    | ⟨0, _⟩ => rfl
    | ⟨1, _⟩ => rfl).trans ?_
  refine (bilerp_apply _ _ _ ((coordsOf_apply v b 0 n).trans hx) ((coordsOf_apply v b 1 n).trans hy) hi hk ch).trans ?_
  exact congrArg (sample4 s t i k) (funext fun r => funext fun q => imageOf_apply w b _ _ ch)

variable (m : (ℓ : Loc nD τ sig) → Buf (Elt Ideal) ℓ) (ρ : Dev nD → PrngReg)

/-- The run: the result array holds the reference's last stage, and the arguments are unchanged. -/
theorem run : θ_run defs (onTc (τ := τ) (main (F := Ideal))) ⟨m, fun _ => 0, ρ⟩ fun r => ∀ c : Dev nD,
      r.2.mem ((c : Thread nD τ).loc main_v473)
        = val_main_v473 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (val_main_v473_eq (StableHlo.launchContents m c)), (h c).2⟩)
    (Cert.ReferenceIdeal.Value.run m ρ)

end Cert.ReferenceIdeal.RefValue

end
-- ==== Proof.lean ====
/-
  The claims, put together from the two programs' values.

  `bounds` reads the precondition at one coordinate of one centre. `patched_eq` is the agreement of the two values: with
  both coordinates in the patch, the kernel's sum over sixteen cells is the reference's sum over four.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_centers_in_patch
public import proofs.«01_k».proof.Proof.Gen.KernelIdeal.Value
public import proofs.«01_k».proof.Proof.Gen.ReferenceIdeal.Run
public import proofs.«01_k».proof.Proof.Gen.ReferenceIdeal.Read
public import proofs.«01_k».proof.Proof.Sampling
public import proofs.«01_k».proof.Proof.KernelValue
public import proofs.«01_k».proof.Proof.ReferenceValue
public import Idealize.ShloMosaic.Adequacy
public import Idealize.ShloMosaic.Init

@[expose] public section

noncomputable section

namespace Cert.Proof

open Cert.Sampling
open Idealize.ShloMosaic hiding ix0 ix1 ix2 ix3 ix4 eq_ix1 eq_ix2 eq_ix3 eq_ix4
open Idealize.ShloMosaic.TcCoe Idealize.ShloMosaic.ValueIdx Idealize.SL.Sem

/-! ## The precondition -/

/-- Where the precondition holds, each of a centre's two coordinates is between its bounds. -/
theorem bounds (v : FVec Ideal ⟨3, ![4, 4096, 3]⟩ .f32) (w : FVec Ideal ⟨4, ![4, 256, 180, 180]⟩ .f32)
    (h : Cert.Pre_centers_in_patch.fn (F := Ideal) v w = fun _ => 1#1) (b : Fin 4) (n : Fin 4096) (j : Fin 2) :
    Ideal.ofBits .f32 0xBF180000#32 ≤ v (ix3 b n (⟨j.val, by omega⟩ : Fin 3))
      ∧ v (ix3 b n (⟨j.val, by omega⟩ : Fin 3)) < Ideal.ofBits .f32 0x3F980000#32 := by
  have e : extractStridedSlice Cert.Pre_centers_in_patch.S4x4096x2 ![0, 0, 0] v
      Cert.Pre_centers_in_patch.Facts.slices_S4x4096x3_S4x4096x2_0_0_0 (ix3 b n j) = v (ix3 b n (⟨j.val, by omega⟩ : Fin 3)) := by
    refine extractStridedSlice_apply _ _ _ _ _ fun a => ?_
    match a with
    | ⟨0, _⟩ => exact (Nat.zero_add _).symm
    | ⟨1, _⟩ => exact (Nat.zero_add _).symm
    | ⟨2, _⟩ => exact (Nat.zero_add _).symm
  have both := IntOp.andi_eq_one.mp (congrFun h (ix3 b n j))
  rw [← e]
  exact ⟨(Ideal.cmp_oge_eq_one _ _).mp both.1, (Ideal.cmp_olt_eq_one _ _).mp both.2⟩

/-! ## The two values agree -/

/-- Where the precondition holds, the kernel's weighted sum is the reference's result. -/
theorem patched_eq (v : FVec Ideal ⟨3, ![4, 4096, 3]⟩ .f32) (w : FVec Ideal ⟨4, ![4, 256, 180, 180]⟩ .f32)
    (h : Cert.Pre_centers_in_patch.fn (F := Ideal) v w = fun _ => 1#1) :
    Cert.ReferenceIdeal.Read.val_main_v473 (F := Ideal) v w
      = fun i : (⟨3, ![4, 4096, 256]⟩ : Shape).Idx => patched v w (i 0) (i 1) (i 2) := by
  funext i
  obtain ⟨b, n, ch, rfl⟩ : ∃ (b : Fin 4) (n : Fin 4096) (ch : Fin 256), i = ix3 b n ch := ⟨i 0, i 1, i 2, eq_ix3 i⟩
  obtain ⟨s, hs, hs1, hs2⟩ := mapCoord_mem _ (bounds v w h b n 0).1 (bounds v w h b n 0).2
  obtain ⟨t, ht, ht1, ht2⟩ := mapCoord_mem _ (bounds v w h b n 1).1 (bounds v w h b n 1).2
  obtain ⟨p, hp⟩ := cellOf hs1 hs2
  obtain ⟨q, hq⟩ := cellOf ht1 ht2
  refine (Cert.ReferenceIdeal.RefValue.result_apply v w b n ch hs ht hp hq).trans ?_
  show _ = patched v w b n ch
  unfold patched
  rw [← patch_sum hp hq, ← hs, ← ht]
  rfl

/-! ## The claims -/

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_centers_in_patch := fun m ρ _ => Cert.KernelIdeal.Gen.frame m ρ

/-- The reference's run leaves its arguments unchanged, and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.RefValue.run m ρ)
theorem frame_reference_pre : Cert.quiescent_ReferenceIdeal_pre_centers_in_patch := fun m ρ _ => frame_reference m ρ trivial

/-- The two programs' results are equal: both are the kernel's weighted sums of the shared arguments. -/
theorem algebraic : Cert.algebraic_KernelIdeal_ReferenceIdeal_pre_centers_in_patch := by
  intro m ρ m' ρ' hpre hagree
  refine ⟨fun c => (fun i : (⟨3, ![4, 4096, 256]⟩ : Shape).Idx =>
    patched (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (i 0) (i 1) (i 2)),
    Cert.KernelIdeal.KerValue.run m ρ, ?_⟩
  refine (θ_run Cert.ReferenceIdeal.defs _ _).mono (fun _ h c => ⟨(h c).1.trans ?_, (h c).2⟩)
    (Cert.ReferenceIdeal.RefValue.run m' ρ')
  refine (congrArg₂ (Cert.ReferenceIdeal.Read.val_main_v473 (F := Ideal)) (hagree c).1 (hagree c).2).trans ?_
  exact patched_eq _ _ (hpre c)

theorem claim : Cert.Claim := ⟨Cert.Kernel.Gen.facts, Cert.KernelIdeal.Gen.facts, Cert.ReferenceIdeal.Gen.facts,
  Cert.Pre_centers_in_patch.Gen.facts, frame_kernel, frame_ideal, frame_ideal_pre, frame_reference, frame_reference_pre,
  trivial, algebraic⟩

end Cert.Proof

end
